-- ==== Defs.lean ====
def Pre_Kernel [hPre_pre_range : Cert.Pre_pre_range.Facts] (m : (ℓ : Loc Cert.Kernel.nD Cert.Kernel.τ Cert.Kernel.sig) → Buf (Elt Bits) ℓ) : Prop :=
  ∀ c : Dev Cert.Kernel.nD,
    (Cert.Pre_pre_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pre_range : Cert.Pre_pre_range.Facts] (m : (ℓ : Loc Cert.KernelIdeal.nD Cert.KernelIdeal.τ Cert.KernelIdeal.sig) → Buf (Elt Ideal) ℓ) : Prop :=
  ∀ c : Dev Cert.KernelIdeal.nD,
    (Cert.Pre_pre_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pre_zero_row [hPre_pre_zero_row : Cert.Pre_pre_zero_row.Facts] (m : (ℓ : Loc Cert.KernelIdeal.nD Cert.KernelIdeal.τ Cert.KernelIdeal.sig) → Buf (Elt Ideal) ℓ) : Prop :=
  ∀ c : Dev Cert.KernelIdeal.nD,
    (Cert.Pre_pre_zero_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_zero_row [hPre_pre_zero_row : Cert.Pre_pre_zero_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_zero_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pre_range : Cert.Pre_pre_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pre_range : Cert.Pre_pre_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pre_zero_row [hKernelIdeal : Cert.KernelIdeal.Facts] [hPre_pre_zero_row : Cert.Pre_pre_zero_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_zero_row m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre_zero_row [hReferenceIdeal : Cert.ReferenceIdeal.Facts] [hPre_pre_zero_row : Cert.Pre_pre_zero_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_zero_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_pre_zero_row [hKernelIdeal : Cert.KernelIdeal.Facts] [hReferenceIdeal : Cert.ReferenceIdeal.Facts] [hPre_pre_zero_row : Cert.Pre_pre_zero_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_zero_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre_range : Cert.Pre_pre_range.Facts) (hPre_pre_zero_row : Cert.Pre_pre_zero_row.Facts),
    quiescent_Kernel (hKernel := hKernel) (hPre_pre_range := hPre_pre_range)
    ∧ quiescent_KernelIdeal (hKernelIdeal := hKernelIdeal) (hPre_pre_range := hPre_pre_range)
    ∧ quiescent_KernelIdeal_pre_pre_zero_row (hKernelIdeal := hKernelIdeal) (hPre_pre_zero_row := hPre_pre_zero_row)
    ∧ quiescent_ReferenceIdeal (hReferenceIdeal := hReferenceIdeal)
    ∧ quiescent_ReferenceIdeal_pre_pre_zero_row (hReferenceIdeal := hReferenceIdeal) (hPre_pre_zero_row := hPre_pre_zero_row)
    ∧ preserves_Kernel_KernelIdeal
    ∧ algebraic_KernelIdeal_ReferenceIdeal_pre_pre_zero_row (hKernelIdeal := hKernelIdeal) (hReferenceIdeal := hReferenceIdeal) (hPre_pre_zero_row := hPre_pre_zero_row)
-- ==== Pre_pre_range.lean ====
abbrev S4096x200 : Shape := ⟨2, ![4096, 200]⟩
abbrev S100000x128 : Shape := ⟨2, ![100000, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100000x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Pre_pre_zero_row.lean ====
abbrev S4096x200 : Shape := ⟨2, ![4096, 200]⟩
abbrev S100000x128 : Shape := ⟨2, ![100000, 128]⟩
abbrev S_ : Shape := ⟨0, ![]⟩
abbrev S1x128 : Shape := ⟨2, ![1, 128]⟩
abbrev S128 : Shape := ⟨1, ![128]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  slices_S100000x128_S1x128_0_0 : S100000x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn {F : FTy → Type} [FloatOps F] (main_arg0 : IVec S4096x200 32) (main_arg1 : FVec F S100000x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_v6 : FVec F S1x128 .f32 := (extractStridedSlice S1x128 ![0, 0] · slices_S100000x128_S1x128_0_0) main_arg1
  let main_v7 : FVec F S128 .f32 := shapeCast S128 main_v6 shapeCasts_S1x128_S128
  let main_cst : FVec F S_ .f32 := constant S_ .f32 0x00000000#32
  let main_v8 : FVec F S128 .f32 := broadcastInDim S128 ![] bcast_S_S128 main_cst
  let main_v9 : IVec S128 1 := cmpf .oeq main_v7 main_v8
  let main_c_2 : IVec S_ 1 := constantI S_ 1 1#1
  let main_v10 : IVec S_ 1 := (fun x v => Host.reduce IntOp.andi x v reducesTo_S128_S_d0 h_S_) main_v9 main_c_2
  let main_v11 : IVec S_ 1 := andi main_v5 main_v10
  main_v11
-- ==== Kernel.lean ====
abbrev S4096x200 : Shape := ⟨2, ![4096, 200]⟩
abbrev S100000x128 : Shape := ⟨2, ![100000, 128]⟩
abbrev S1x819200 : Shape := ⟨2, ![1, 819200]⟩
abbrev S819200x128 : Shape := ⟨2, ![819200, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩
abbrev S4096x200x128 : Shape := ⟨3, ![4096, 200, 128]⟩

abbrev nBuf : Table → Nat
  | .hbm => 5
  | .local .scVector .vmem => 2
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S1x819200, .i32⟩
  | .hbm, ⟨3, _⟩ => ⟨S819200x128, .f32⟩
  | .hbm, ⟨4, _⟩ => ⟨S4096x200x128, .f32⟩
  | .local .scVector .vmem, ⟨0, _⟩ => ⟨S2x1x256, .i32⟩
  | .local .scVector .vmem, ⟨1, _⟩ => ⟨S2x256x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c100_i32_27_r0 : BitVec 32 := 100#32
  let v32_r0 : BitVec 32 := Scalar.addi c0_i32_26_r0 c100_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c100_i32_62_r0 : BitVec 32 := 100#32
  let v74_r0 : BitVec 1 := Scalar.cmpi .eq v73_r0 c100_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c99_i32_68_r0 : BitVec 32 := 99#32
  let v83_r0 : BitVec 1 := Scalar.cmpi .sge arg5_r0 c99_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c100_i32_62_r0 : BitVec 32 := 100#32
  let v74_r0 : BitVec 1 := Scalar.cmpi .eq v73_r0 c100_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v76_r0 : BitVec 32 := Scalar.addi v75_r0 v4
  let v145_r0 : BitVec 32 := Scalar.muli c256_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c99_i32_59_r0 : BitVec 32 := 99#32
  let v70_r0 : BitVec 32 := Scalar.select v69_r0 c99_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let v144_r0 : BitVec 32 := Scalar.muli c256_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c100_i32_62_r0 : BitVec 32 := 100#32
  let v74_r0 : BitVec 1 := Scalar.cmpi .eq v73_r0 c100_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c99_i32_55_r0 : BitVec 32 := 99#32
  let v65_r0 : BitVec 1 := Scalar.cmpi .eq arg5_r0 c99_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c99_i32_59_r0 : BitVec 32 := 99#32
  let v70_r0 : BitVec 32 := Scalar.select v69_r0 c99_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c99_i32_59_r0 : BitVec 32 := 99#32
  let v70_r0 : BitVec 32 := Scalar.select v69_r0 c99_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v71_r0 : BitVec 32 := Scalar.addi v70_r0 v4
  let v145_r0 : BitVec 32 := Scalar.muli c256_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x819200.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x819200.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S819200x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S819200x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x819200.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x819200.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S819200x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S819200x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c99_i32_33_r0 : BitVec 32 := 99#32
  let v37_r0 : BitVec 32 := Scalar.select v36_r0 c99_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S819200x128.size a)
theorem k0_off19_inb : ∀ (i : grid0.Coords) (v33_4_r0 : BitVec 32) (k0_hw5 : k0_chk5 i v33_4_r0), ∀ a, (k0_off19 i v33_4_r0) a + S256x128.size a ≤ S819200x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | .hbm, ⟨25, _⟩ => ⟨S_, .i32⟩
  | .hbm, ⟨26, _⟩ => ⟨S4096x200, .i32⟩
  | .hbm, ⟨27, _⟩ => ⟨S4096x200, .i1⟩
  | .hbm, ⟨28, _⟩ => ⟨S4096x200, .f32⟩
  | .hbm, ⟨29, _⟩ => ⟨S4096x200x1, .f32⟩
  | .hbm, ⟨30, _⟩ => ⟨S4096x200x128, .f32⟩
  | .hbm, ⟨31, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]
-- ==== Proof.Words.lean ====
/-
  The gather kernel's pipeline carries five counters from trip to trip: how many index blocks it has asked for, how many
  it has taken, how many row blocks it has sent, how many it has seen arrive, and the step it is at. This module says
  what the counters are before each of the hundred trips, on every tile, and what every offset, condition and side
  condition the kernel computes from them comes to. Everything here is a computation on words, over the thirty-two
  tiles and the hundred trips.
-/
module

public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic

/-- The number of the first block of the tile at coordinates `i`: its hundred blocks are this one and the next ninety-nine. -/
abbrev base (i : grid0.Coords) : ℕ := 100 * ((i 1).val + 16 * (i 0).val)

/-- The same number as the kernel computes it, a word. -/
abbrev baseW (i : grid0.Coords) : BitVec 32 :=
  Scalar.muli (Scalar.addi (Scalar.addi 0#32 (Scalar.muli (BitVec.ofNat 32 (i 1).val) 1#32)) (Scalar.muli (BitVec.ofNat 32 (i 0).val) 16#32)) 100#32

/-- The five counters before trip `k`: blocks asked for, blocks taken, row blocks sent, row blocks arrived, and the step. -/
abbrev acc (k : ℕ) : BitVec 32 × BitVec 32 × BitVec 32 × BitVec 32 × BitVec 32 :=
  (BitVec.ofNat 32 (min (k + 1) 100), BitVec.ofNat 32 k, BitVec.ofNat 32 k, BitVec.ofNat 32 (k - 1), BitVec.ofNat 32 (k % 100))

/-- A tile's hundred blocks lie among the three thousand two hundred. -/
theorem base_le : ∀ i : grid0.Coords, base i + 100 ≤ 3200 := by decide +kernel

/-! ## The slots the counters name -/

theorem off4_eq : ∀ n : Fin 101, k0_off4 (BitVec.ofNat 32 n.val) = ![n.val % 2, 0, 0] := by decide +kernel
theorem off6_eq : ∀ n : Fin 101, k0_off6 (BitVec.ofNat 32 n.val) = ![n.val % 2] := by decide +kernel
theorem off7_eq : ∀ n : Fin 101, k0_off7 (BitVec.ofNat 32 n.val) = ![n.val % 2, 0, 0] := by decide +kernel
theorem off9_eq : ∀ n : Fin 101, k0_off9 (BitVec.ofNat 32 n.val) = ![n.val % 2] := by decide +kernel
theorem off10_eq : ∀ n : Fin 101, k0_off10 (BitVec.ofNat 32 n.val) = ![n.val % 2, 0, 0] := by decide +kernel
theorem off11_eq : ∀ n : Fin 101, k0_off11 (BitVec.ofNat 32 n.val) = ![n.val % 2, 0, 0] := by decide +kernel
theorem off12_eq : ∀ n : Fin 101, k0_off12 (BitVec.ofNat 32 n.val) = ![n.val % 2, 0, 0] := by decide +kernel
theorem off14_eq : ∀ n : Fin 101, k0_off14 (BitVec.ofNat 32 n.val) = ![n.val % 2] := by decide +kernel
theorem off15_eq : ∀ n : Fin 101, k0_off15 (BitVec.ofNat 32 n.val) = ![n.val % 2, 0, 0] := by decide +kernel
theorem off17_eq : ∀ n : Fin 101, k0_off17 (BitVec.ofNat 32 n.val) = ![n.val % 2] := by decide +kernel
theorem off18_eq : k0_off18 (BitVec.ofNat 32 99) = ![1, 0, 0] := by decide +kernel
theorem off20_eq : k0_off20 (BitVec.ofNat 32 99) = ![1] := by decide +kernel
theorem off21_eq : k0_off21 (BitVec.ofNat 32 99) = ![1, 0, 0] := by decide +kernel

/-! ## The blocks the step names -/

theorem off2_eq : ∀ i : grid0.Coords, k0_off2 i = ![0, 256 * base i] := by decide +kernel
theorem off5_eq : ∀ (i : grid0.Coords) (k : Fin 100), k.val < 99 → k0_off5 i (BitVec.ofNat 32 (k.val % 100)) = ![0, 256 * (base i + (k.val + 1))] := by decide +kernel
theorem off8_eq : ∀ (i : grid0.Coords) (k : Fin 100), k0_off8 i (BitVec.ofNat 32 (k.val % 100)) = ![0, 256 * (base i + k.val)] := by decide +kernel
theorem off13_eq : ∀ (i : grid0.Coords) (k : Fin 100), k0_off13 i (BitVec.ofNat 32 (k.val % 100)) = ![256 * (base i + k.val), 0] := by decide +kernel
theorem off16_eq : ∀ (i : grid0.Coords) (k : Fin 100), 0 < k.val → k0_off16 i (BitVec.ofNat 32 (k.val % 100)) = ![256 * (base i + (k.val - 1)), 0] := by decide +kernel
theorem off19_eq : ∀ i : grid0.Coords, k0_off19 i (BitVec.ofNat 32 0) = ![256 * (base i + 99), 0] := by decide +kernel

/-! ## The conditions -/

/-- The next index block is asked for on every trip but the last. -/
theorem cond1_iff : ∀ (i : grid0.Coords) (k : Fin 100), (k0_cond1 i k (BitVec.ofNat 32 (k.val % 100)) = 1#1 ↔ k.val < 99) := by decide +kernel
/-- Every trip takes an index block. -/
theorem cond2_eq : ∀ (i : grid0.Coords) (k : Fin 100), k0_cond2 i k (BitVec.ofNat 32 (k.val % 100)) = 1#1 := by decide +kernel
/-- Every trip sends a row block. -/
theorem cond5_eq : ∀ (i : grid0.Coords) (k : Fin 100), k0_cond5 i k (BitVec.ofNat 32 (k.val % 100)) = 1#1 := by decide +kernel
/-- Every trip but the first waits for the row block before it. -/
theorem cond7_iff : ∀ (i : grid0.Coords) (k : Fin 100), (k0_cond7 i k (BitVec.ofNat 32 (k.val % 100)) = 1#1 ↔ 0 < k.val) := by decide +kernel

/-! ## The side conditions -/

theorem chk1_ok : ∀ (i : grid0.Coords) (k : Fin k0_t1_loop.trips),
    k0_chk1 i k (BitVec.ofNat 32 (min (k.val + 1) 100)) (BitVec.ofNat 32 k.val) (BitVec.ofNat 32 k.val) (BitVec.ofNat 32 (k.val - 1)) (BitVec.ofNat 32 (k.val % 100)) := by
  decide +kernel
theorem chk2_ok : ∀ k : Fin 100, k0_chk2 (BitVec.ofNat 32 k.val) := by decide +kernel
theorem chk3_ok : ∀ k : Fin 100, k0_chk3 (BitVec.ofNat 32 k.val) := by decide +kernel
theorem chk4_ok : k0_chk4 (BitVec.ofNat 32 99) := by decide +kernel
theorem chk5_ok : ∀ i : grid0.Coords, k0_chk5 i (BitVec.ofNat 32 0) := by decide +kernel

end Cert.Proof.Words

end
-- ==== Proof.Slots.lean ====
/-
  The transfers of one pipeline trip, each as a rule: the pipeline's two index slots and two row slots, the blocks they are
  filled from and sent to, and what each start and each wait takes and gives. The rules are stated at any offsets that
  equal the slot's and the block's, so that they apply to the kernel's own slices.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Slots

open Cert.KernelIdeal Cert.KernelIdeal.Gen Cert.Proof.Words
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra -/

abbrev UH : Type := URounds (GSem nD τ sig) ℕ
abbrev UU : Type := UH × Counters

local notation "𝕄" => MT nD τ sig (HIx 1) (Elt F) ℕ UU ℕ

abbrev 𝒱₀ : Variants := Variants.none

/-! ## The slots and the blocks -/

/-- The slot of trip `k`: the two slots alternate. -/
abbrev sl (k : ℕ) : Fin 2 := ⟨k % 2, Nat.mod_lt _ (by decide)⟩

abbrev idxSlotAt (o : Fin 3 → ℕ) (h : ∀ a, o a + S1x1x256.size a ≤ S2x1x256.size a) : Memref sig .scVector .vmem S1x256 .i32 :=
  ((Memref.whole cc0_scoped0).slice (Rect.unit (s := S2x1x256) o S1x1x256.size h) (fun _ => rfl)).squeeze S1x256 squeezes_S1x1x256_S1x256
abbrev rowSlotAt (o : Fin 3 → ℕ) (h : ∀ a, o a + S1x256x128.size a ≤ S2x256x128.size a) : Memref sig .scVector .vmem S256x128 .f32 :=
  ((Memref.whole cc0_scoped2).slice (Rect.unit (s := S2x256x128) o S1x256x128.size h) (fun _ => rfl)).squeeze S256x128 squeezes_S1x256x128_S256x128
abbrev listAt (o : Fin 3 → ℕ) (h : ∀ a, o a + S1x1x256.size a ≤ S2x1x256.size a) : Memref sig .scVector .vmem S256 .i32 :=
  ((idxSlotAt o h).slice (Rect.unit (s := S1x256) ![0, 0] S1x256.size inb_S1x256_S1x256_0_0) (fun _ => rfl)).squeeze S256 squeezes_S1x256_S256
abbrev idxBlkAt (o : Fin 2 → ℕ) (h : ∀ a, o a + S1x256.size a ≤ S1x819200.size a) : Memref sig .scVector .hbm S1x256 .i32 :=
  (Memref.whole main_v0_scv).slice (Rect.unit (s := S1x819200) o S1x256.size h) (fun _ => rfl)
abbrev outBlkAt (o : Fin 2 → ℕ) (h : ∀ a, o a + S256x128.size a ≤ S819200x128.size a) : Memref sig .scVector .hbm S256x128 .f32 :=
  (Memref.whole main_v1_scv).slice (Rect.unit (s := S819200x128) o S256x128.size h) (fun _ => rfl)
abbrev semIAt (o : Fin 1 → ℕ) (h : ∀ a, o a + S1.size a ≤ S2.size a) : DmaSem sig :=
  ((cc0_scoped1.slice (Rect.unit (s := S2) o S1.size h)).squeeze S_ squeezes_S1_S_).sem
abbrev semOAt (o : Fin 1 → ℕ) (h : ∀ a, o a + S1.size a ≤ S2.size a) : DmaSem sig :=
  ((cc0_scoped3.slice (Rect.unit (s := S2) o S1.size h)).squeeze S_ squeezes_S1_S_).sem
/-- The whole table, as the kernel addresses it. -/
abbrev tabM : Memref sig .scVector .hbm S100000x128 .f32 :=
  (Memref.whole main_arg1_scv).slice (Rect.unit (s := S100000x128) ![0, 0] S100000x128.size inb_S100000x128_S100000x128_0_0) (fun _ => rfl)

theorem idxSlot_inb : ∀ (b : Fin 2) a, (![b.val, 0, 0] : Fin 3 → ℕ) a + S1x1x256.size a ≤ S2x1x256.size a := by decide
theorem rowSlot_inb : ∀ (b : Fin 2) a, (![b.val, 0, 0] : Fin 3 → ℕ) a + S1x256x128.size a ≤ S2x256x128.size a := by decide
theorem sem_inb : ∀ (b : Fin 2) a, (![b.val] : Fin 1 → ℕ) a + S1.size a ≤ S2.size a := by decide
theorem idxBlk_inb (n : Fin 3200) : ∀ a, (![0, 256 * n.val] : Fin 2 → ℕ) a + S1x256.size a ≤ S1x819200.size a := by
  intro a; match a with
  | 0 => show 0 + 1 ≤ 1; omega
  | 1 => show 256 * n.val + 256 ≤ 819200; omega
theorem outBlk_inb (n : Fin 3200) : ∀ a, (![256 * n.val, 0] : Fin 2 → ℕ) a + S256x128.size a ≤ S819200x128.size a := by
  intro a; match a with
  | 0 => show 256 * n.val + 256 ≤ 819200; omega
  | 1 => show 0 + 128 ≤ 128; omega

abbrev idxSlot (b : Fin 2) := idxSlotAt ![b.val, 0, 0] (idxSlot_inb b)
abbrev rowSlot (b : Fin 2) := rowSlotAt ![b.val, 0, 0] (rowSlot_inb b)
abbrev listOf (b : Fin 2) := listAt ![b.val, 0, 0] (idxSlot_inb b)
abbrev idxBlk (n : Fin 3200) := idxBlkAt ![0, 256 * n.val] (idxBlk_inb n)
abbrev outBlk (n : Fin 3200) := outBlkAt ![256 * n.val, 0] (outBlk_inb n)
abbrev semI (b : Fin 2) : DmaSem sig := semIAt ![b.val] (sem_inb b)
abbrev semO (b : Fin 2) : DmaSem sig := semOAt ![b.val] (sem_inb b)
abbrev semG : DmaSem sig := cc0_scoped4.sem

/-! ## What the rules say the memory holds -/

section Rules

variable [FloatOps F] (d : Dev nD) (L : grid0.Coords)

abbrev thr : Thread nD τ := V d ((L 0).castLE hcore0) ((L 1).castLE hsub0)

abbrev xLoc : Loc nD τ sig := (SparseCore.T d).loc main_v0
abbrev tLoc : Loc nD τ sig := (SparseCore.T d).loc main_arg1
abbrev oLoc : Loc nD τ sig := (SparseCore.T d).loc main_v1

variable (X : Buf (Elt F) (xLoc d)) (Tb : Buf (Elt F) (tLoc d)) (qx : Fin 2 → PosShare TreeShare) (qt : PosShare TreeShare)

/-- The table row a word names. A word naming none is given the last, so that this is a row whatever the word. -/
abbrev rowIx (w : BitVec 32) (c : Fin 128) : S100000x128.Idx :=
  fun | 0 => ⟨min w.toNat 99999, by show _ < 100000; omega⟩ | 1 => c | ⟨_ + 2, h⟩ => absurd h (Nat.not_lt.2 (Nat.le_add_left _ _))

/-- Entry `r` of the index list. -/
abbrev xIx (r : Fin 819200) : S1x819200.Idx :=
  fun | 0 => ⟨0, by decide⟩ | 1 => r | ⟨_ + 2, h⟩ => absurd h (Nat.not_lt.2 (Nat.le_add_left _ _))

/-- What the kernel's result ends at: row `r` is the table's row that entry `r` of the index list names. -/
abbrev G : Buf (Elt F) (oLoc d) := fun (j : S819200x128.Idx) => Tb (rowIx (X (xIx (j 0))) (j 1))

/-- The words of index block `n`. -/
abbrev words (n : Fin 3200) : S1x256.Idx → Elt F .i32 := (idxBlk n).view.read (Elt F) X
/-- The rows of row block `n`. -/
abbrev rowsOf (n : Fin 3200) : S256x128.Idx → Elt F .f32 := (outBlk n).view.read (Elt F) (G d X Tb)

/-- Index slot `b`, at some contents. -/
abbrev idxAny (b : Fin 2) : sProp 𝕄 := iprop(∃ f, (idxSlot b).view.loc (thr d L) ↦[(idxSlot b).view.set]{fullShare} f)
/-- Index slot `b`, reading `w`. -/
abbrev idxHas (b : Fin 2) (w : S1x256.Idx → Elt F .i32) : sProp 𝕄 :=
  iprop(∃ f, ⌜(idxSlot b).view.read (Elt F) f = w⌝ ∗ (idxSlot b).view.loc (thr d L) ↦[(idxSlot b).view.set]{fullShare} f)
/-- Row slot `b`, at some contents. -/
abbrev rowAny (b : Fin 2) : sProp 𝕄 := iprop(∃ f, (rowSlot b).view.loc (thr d L) ↦[(rowSlot b).view.set]{fullShare} f)
/-- Row slot `b`, reading `w`. -/
abbrev rowHas (b : Fin 2) (w : S256x128.Idx → Elt F .f32) : sProp 𝕄 :=
  iprop(∃ f, ⌜(rowSlot b).view.read (Elt F) f = w⌝ ∗ (rowSlot b).view.loc (thr d L) ↦[(rowSlot b).view.set]{fullShare} f)
/-- Block `n` of the result, at `f`. -/
abbrev outPts (n : Fin 3200) (f : Buf (Elt F) (oLoc d)) : sProp 𝕄 := oLoc d ↦[(outBlk n).view.set]{fullShare} f

/-- Index slot `b` with nothing in flight. -/
abbrev IdleI (b : Fin 2) : sProp 𝕄 := iprop(idxAny (F := F) d L b ∗ semVal (thr d L, SemLoc.dma (semI b)) 0 ∗ xLoc d ↦{qx b} X)
/-- Index block `n` on its way into slot `b`. -/
abbrev PendI (b : Fin 2) (n : Fin 3200) : sProp 𝕄 :=
  iprop(Transfers.Flight countersEmb (thr d L) (.dma (semI b)) (default : HIx 1) (idxSlot b).view.dmaCredit
      iprop(idxHas d L b (words d X n) ∗ xLoc d ↦[(idxBlk n).view.set]{qx b} X)
    ∗ xLoc d ↦[Finset.univ \ (idxBlk n).view.set]{qx b} X)
/-- Row slot `b` with nothing in flight. -/
abbrev IdleO (b : Fin 2) : sProp 𝕄 := iprop(rowAny (F := F) d L b ∗ semVal (thr d L, SemLoc.dma (semO b)) 0)
/-- Row block `n` on its way out of slot `b`, to arrive as the result's rows. -/
abbrev PendO (b : Fin 2) (n : Fin 3200) : sProp 𝕄 :=
  Transfers.Flight countersEmb (thr d L) (.dma (semO b)) (default : HIx 1) (outBlk n).view.dmaCredit
    iprop(outPts d n (G d X Tb) ∗ rowAny (F := F) d L b)

/-! ## What the slices read -/

/-- The place in a slot of entry `x` of the list the gather reads. -/
abbrev lst (x : S256.Idx) : S1x256.Idx :=
  fun | 0 => ⟨0, by decide⟩ | 1 => x 0 | ⟨_ + 2, h⟩ => absurd h (Nat.not_lt.2 (Nat.le_add_left _ _))

theorem read_list (b : Fin 2) (f : Buf (Elt F) ((idxSlot b).view.loc (thr d L))) (x : S256.Idx) :
    (listOf b).view.read (Elt F) f x = (idxSlot b).view.read (Elt F) f (lst x) := by
  have h : (Rect.unit (s := S1x256) ![0, 0] S1x256.size inb_S1x256_S1x256_0_0).emb (Shape.reshapeEquiv squeezes_S1x256_S256.numel_eq x) = lst x := by
    rw [Shape.reshapeEquiv_eq_of_rowMajor squeezes_S1x256_S256.numel_eq (y := lst x) (by
      rw [Shape.rowMajor_val_two, Shape.rowMajor_val_one]; show 0 * 256 + (x 0).val = (x 0).val; omega)]
    funext a; apply Fin.ext
    match a with
    | 0 => rfl
    | 1 => show 0 + 1 * (x 0).val = (x 0).val; omega
  show (idxSlot b).view.read (Elt F) f ((Rect.unit (s := S1x256) ![0, 0] S1x256.size inb_S1x256_S1x256_0_0).emb (Shape.reshapeEquiv squeezes_S1x256_S256.numel_eq x)) = _
  rw [h]

/-- The list is the whole slot. -/
theorem listOf_set (b : Fin 2) : (listOf b).view.set = (idxSlot b).view.set := by
  refine Finset.eq_of_subset_of_card_le ?_ (by rw [View.card_set, View.card_set]; decide)
  show (((idxSlot b).view.slice (Rect.unit (s := S1x256) ![0, 0] S1x256.size inb_S1x256_S1x256_0_0)).reshape S256 squeezes_S1x256_S256.numel_eq).set ⊆ _
  rw [View.set_reshape]; exact View.set_slice_subset _ _

theorem words_apply (n : Fin 3200) (y : S1x256.Idx) :
    words d X n y = X (xIx ⟨256 * n.val + (y 1).val, by have : (y 1).val < 256 := (y 1).isLt; omega⟩) := by
  show X ((Rect.unit (s := S1x819200) ![0, 256 * n.val] S1x256.size (idxBlk_inb n)).emb y) = _
  congr 1; funext a; apply Fin.ext
  match a with
  | 0 => show 0 + 1 * (y 0).val = 0; have : (y 0).val < 1 := (y 0).isLt; omega
  | 1 => show 256 * n.val + 1 * (y 1).val = _; simp

theorem rowsOf_apply (n : Fin 3200) (x : S256x128.Idx) :
    rowsOf d X Tb n x = Tb (rowIx (X (xIx ⟨256 * n.val + (x 0).val, by have : (x 0).val < 256 := (x 0).isLt; omega⟩)) (x 1)) := by
  show Tb (rowIx (X (xIx ((Rect.unit (s := S819200x128) ![256 * n.val, 0] S256x128.size (outBlk_inb n)).emb x 0)))
    ((Rect.unit (s := S819200x128) ![256 * n.val, 0] S256x128.size (outBlk_inb n)).emb x 1)) = _
  congr 2
  · congr 2; apply Fin.ext; show 256 * n.val + 1 * (x 0).val = _; simp
  · apply Fin.ext; show 0 + 1 * (x 1).val = _; simp

/-- What the gather of the table at block `n`'s words delivers is the rows of block `n`. -/
theorem payload_eq (b : Fin 2) (n : Fin 3200) (f : Buf (Elt F) ((idxSlot b).view.loc (thr d L)))
    (hf : (idxSlot b).view.read (Elt F) f = words d X n) (hn : S256.numel = S256x128.size gathers_S100000x128_S256x128.axis')
    (hin : ∀ x, ((listOf b).view.read (Elt F) f x).toNat < S100000x128.size gathers_S100000x128_S256x128.axis) :
    SparseCore.gatherPayload gathers_S100000x128_S256x128 (tabM.view.read (Elt F) Tb) (SparseCore.rows ((listOf b).view.read (Elt F) f) hn hin)
      = rowsOf d X Tb n := by
  funext x
  rw [rowsOf_apply]
  show Tb ((Rect.unit (s := S100000x128) ![0, 0] S100000x128.size inb_S100000x128_S100000x128_0_0).emb
    (gathers_S100000x128_S256x128.idx (SparseCore.rows ((listOf b).view.read (Elt F) f) hn hin) x)) = _
  congr 1; funext a; apply Fin.ext
  match a with
  | 0 =>
    show 0 + 1 * (gathers_S100000x128_S256x128.idx (SparseCore.rows ((listOf b).view.read (Elt F) f) hn hin) x gathers_S100000x128_S256x128.axis).val = _
    rw [Shape.Gathers.idx_axis]
    have hx := hin (S256.rowMajor.symm ((x gathers_S100000x128_S256x128.axis').cast hn.symm))
    show 0 + 1 * ((listOf b).view.read (Elt F) f (S256.rowMajor.symm ((x gathers_S100000x128_S256x128.axis').cast hn.symm))).toNat = min _ 99999
    have e : (listOf b).view.read (Elt F) f (S256.rowMajor.symm ((x gathers_S100000x128_S256x128.axis').cast hn.symm))
        = X (xIx ⟨256 * n.val + (x 0).val, by have : (x 0).val < 256 := (x 0).isLt; omega⟩) := by
      rw [read_list d L b f, hf, words_apply]
      congr 3
      show 256 * n.val + ((S256.rowMajor.symm ((x 0).cast hn.symm)) 0).val = 256 * n.val + (x 0).val
      rw [← Shape.rowMajor_val_one, Equiv.apply_symm_apply]; rfl
    rw [e] at hx ⊢
    have hx' : (X (xIx ⟨256 * n.val + (x 0).val, by have : (x 0).val < 256 := (x 0).isLt; omega⟩)).toNat < 100000 := hx
    omega
  | 1 =>
    show 0 + 1 * (gathers_S100000x128_S256x128.idx (SparseCore.rows ((listOf b).view.read (Elt F) f) hn hin) x 1).val = _
    rw [Shape.Gathers.idx_of_ne _ _ _ _ (by decide)]
    show 0 + 1 * (x 1).val = (x 1).val; omega

/-! ## The rules -/

/-- Starting the transfer of index block `n` into slot `b`. -/
theorem enqI {o₁ : Fin 2 → ℕ} {o₂ : Fin 3 → ℕ} {o₃ : Fin 1 → ℕ} {h₁ : ∀ a, o₁ a + S1x256.size a ≤ S1x819200.size a}
    {h₂ : ∀ a, o₂ a + S1x1x256.size a ≤ S2x1x256.size a} {h₃ : ∀ a, o₃ a + S1.size a ≤ S2.size a}
    (b : Fin 2) (n : Fin 3200) (e₁ : o₁ = ![0, 256 * n.val]) (e₂ : o₂ = ![b.val, 0, 0]) (e₃ : o₃ = ![b.val])
    {hs : (idxBlkAt o₁ h₁).view.WordExact} {hd : (idxSlotAt o₂ h₂).view.WordExact}
    {ht : DmaTarget.Typed (nD := nD) (τ := τ) (sig := sig) (p := (thr d L).2) (sp' := .vmem) (s := S1x256) (e := .i32) .hbm
      (SemLoc.dma (semIAt o₃ h₃)) (.here (idxSlotAt o₂ h₂))} {Q : PUnit → sProp 𝕄} :
    (IdleI d L X qx b : sProp 𝕄)
      ⊢ iprop((PendI d L X qx b n -∗ Q ⟨⟩)
          -∗ wp frame (wpE (defs₀ (F := F)) 𝒱₀ (thr d L) none) Set.univ
            (Prog.lift (.enqueueDma (idxBlkAt o₁ h₁) (.here (idxSlotAt o₂ h₂)) (.dma (semIAt o₃ h₃)) hs hd ht)) Q) := by
  subst e₁ e₂ e₃
  iintro ⟨⟨%f, Hf⟩, Hv, Hx⟩ Hk
  ihave Hx' := (pointsTo_split_subset (ℓ := xLoc d) (q := qx b) (f := X) (S := Finset.univ) (Finset.subset_univ (idxBlk n).view.set)).1 $$ Hx
  icases Hx' with ⟨Hx, Hr⟩
  iapply (Transfers.wp_dmaLocal countersEmb 𝒱₀ (thr d L) none (default : HIx 1) (idxSlot b).view.dmaCredit rfl
      (View.dmaCredit_pos _ (by decide)) (Finset.Subset.refl _)) $$ [Hx Hf Hv]
  · isplitl [Hx]; · iexact Hx
    isplitl [Hf]; · iexact Hf
    iexact Hv
  iintro Hfl
  rw [wp_ret]; imodintro
  iapply Hk
  isplitl [Hfl]
  · iapply (Transfers.Flight_mono countersEmb (thr d L) (by
      iintro ⟨Hd, Hs⟩
      isplitl [Hd]
      · iexists _; isplitr; swap; · iexact Hd
        ipureintro; exact View.read_write_univ _ _
      iexact Hs)) $$ Hfl
  · iexact Hr

/-- Waiting for index block `n` in slot `b`: the slot reads the block's words. -/
theorem waitI {o₁ : Fin 2 → ℕ} {o₂ : Fin 3 → ℕ} {o₃ : Fin 1 → ℕ} {h₁ : ∀ a, o₁ a + S1x256.size a ≤ S1x819200.size a}
    {h₂ : ∀ a, o₂ a + S1x1x256.size a ≤ S2x1x256.size a} {h₃ : ∀ a, o₃ a + S1.size a ≤ S2.size a}
    (b : Fin 2) (n : Fin 3200) (e₂ : o₂ = ![b.val, 0, 0]) (e₃ : o₃ = ![b.val])
    {hs : (idxBlkAt o₁ h₁).view.WordExact} {hd : (idxSlotAt o₂ h₂).view.WordExact} {Q : PUnit → sProp 𝕄}
    {O : CellTallies nD τ sig (HIx 1)} {W : Waits sig (HIx 1)} :
    iprop(PendI d L X qx b n ∗ owes (thr d L) O W ∗ Transfers.MayWaits (thr d L) (default : HIx 1) O : sProp 𝕄)
      ⊢ iprop((iprop(idxHas d L b (words d X n) ∗ semVal (thr d L, SemLoc.dma (semI b)) 0 ∗ (xLoc d ↦{qx b} X)
            ∗ owes (thr d L) O (insert (SemLoc.dma (semI b), default) W)) -∗ Q ⟨⟩)
          -∗ wp frame (wpE (defs₀ (F := F)) 𝒱₀ (thr d L) none) Set.univ
            (Prog.lift (.waitDma2 (semIAt o₃ h₃) (idxBlkAt o₁ h₁) (idxSlotAt o₂ h₂) hs hd)) Q) := by
  subst e₂ e₃
  iintro ⟨⟨Hfl, Hr⟩, HO, HM⟩ Hk
  ihave HM' := (Transfers.MayWaits.elim (SemLoc.dma (semI b))) $$ HM
  iapply (Transfers.wp_waitLocalO countersEmb 𝒱₀ (thr d L) none (default : HIx 1) rfl) $$ [Hfl HO HM']
  · isplitl [Hfl]; · iexact Hfl
    isplitl [HO]; · iexact HO
    iexact HM'
  iintro ⟨⟨Hd, Hx⟩, Hv, HO⟩
  rw [wp_ret]; imodintro
  iapply Hk
  isplitl [Hd]; · iexact Hd
  isplitl [Hv]; · iexact Hv
  isplitl [Hx Hr]
  · iapply (pointsTo_split_subset (ℓ := xLoc d) (q := qx b) (f := X) (S := Finset.univ) (Finset.subset_univ (idxBlk n).view.set)).2
    isplitl [Hx]; · iexact Hx
    iexact Hr
  iexact HO

/-- Starting the transfer of row slot `b`, which reads the rows of block `n`, to the result's block `n`. -/
theorem enqO {o₁ : Fin 2 → ℕ} {o₂ : Fin 3 → ℕ} {o₃ : Fin 1 → ℕ} {h₁ : ∀ a, o₁ a + S256x128.size a ≤ S819200x128.size a}
    {h₂ : ∀ a, o₂ a + S1x256x128.size a ≤ S2x256x128.size a} {h₃ : ∀ a, o₃ a + S1.size a ≤ S2.size a}
    (b : Fin 2) (n : Fin 3200) (e₁ : o₁ = ![256 * n.val, 0]) (e₂ : o₂ = ![b.val, 0, 0]) (e₃ : o₃ = ![b.val])
    {hs : (rowSlotAt o₂ h₂).view.WordExact} {hd : (outBlkAt o₁ h₁).view.WordExact}
    {ht : DmaTarget.Typed (nD := nD) (τ := τ) (sig := sig) (p := (thr d L).2) (sp' := .hbm) (s := S256x128) (e := .f32) .vmem
      (SemLoc.dma (semOAt o₃ h₃)) (.here (outBlkAt o₁ h₁))} {Q : PUnit → sProp 𝕄} (f : Buf (Elt F) (oLoc d)) :
    iprop(rowHas d L b (rowsOf d X Tb n) ∗ semVal (thr d L, SemLoc.dma (semO b)) 0 ∗ outPts d n f : sProp 𝕄)
      ⊢ iprop((PendO d L X Tb b n -∗ Q ⟨⟩)
          -∗ wp frame (wpE (defs₀ (F := F)) 𝒱₀ (thr d L) none) Set.univ
            (Prog.lift (.enqueueDma (rowSlotAt o₂ h₂) (.here (outBlkAt o₁ h₁)) (.dma (semOAt o₃ h₃)) hs hd ht)) Q) := by
  subst e₁ e₂ e₃
  iintro ⟨⟨%g, %hg, Hg⟩, Hv, Ho⟩ Hk
  iapply (Transfers.wp_dmaLocal countersEmb 𝒱₀ (thr d L) none (default : HIx 1) (outBlk n).view.dmaCredit rfl
      (View.dmaCredit_pos _ (by decide)) (Finset.Subset.refl _)) $$ [Hg Ho Hv]
  · isplitl [Hg]; · iexact Hg
    isplitl [Ho]; · iexact Ho
    iexact Hv
  iintro Hfl
  rw [wp_ret]; imodintro
  iapply Hk
  iapply (Transfers.Flight_mono countersEmb (thr d L) (by
      iintro ⟨Hd, Hs⟩
      isplitl [Hd]
      · iapply (Entails.of_eq (pointsTo_congr (I := (outBlk n).view.set) (q := fullShare) (g := G d X Tb) (by
          intro i hi
          obtain ⟨x, -, rfl⟩ := Finset.mem_map.1 hi
          exact (View.write_emb_of_mem _ _ (Finset.mem_univ x)).trans (congrFun hg x)))) $$ Hd
      iexists _; iexact Hs)) $$ Hfl

/-- Waiting for the result's block `n` out of slot `b`: the block is at the rows gathered. -/
theorem waitO {o₁ : Fin 2 → ℕ} {o₂ : Fin 3 → ℕ} {o₃ : Fin 1 → ℕ} {h₁ : ∀ a, o₁ a + S256x128.size a ≤ S819200x128.size a}
    {h₂ : ∀ a, o₂ a + S1x256x128.size a ≤ S2x256x128.size a} {h₃ : ∀ a, o₃ a + S1.size a ≤ S2.size a}
    (b : Fin 2) (n : Fin 3200) (e₃ : o₃ = ![b.val])
    {hs : (rowSlotAt o₂ h₂).view.WordExact} {hd : (outBlkAt o₁ h₁).view.WordExact} {Q : PUnit → sProp 𝕄}
    {O : CellTallies nD τ sig (HIx 1)} {W : Waits sig (HIx 1)} :
    iprop(PendO d L X Tb b n ∗ owes (thr d L) O W ∗ Transfers.MayWaits (thr d L) (default : HIx 1) O : sProp 𝕄)
      ⊢ iprop((iprop(outPts d n (G d X Tb) ∗ IdleO (F := F) d L b
            ∗ owes (thr d L) O (insert (SemLoc.dma (semO b), default) W)) -∗ Q ⟨⟩)
          -∗ wp frame (wpE (defs₀ (F := F)) 𝒱₀ (thr d L) none) Set.univ
            (Prog.lift (.waitDma2 (semOAt o₃ h₃) (rowSlotAt o₂ h₂) (outBlkAt o₁ h₁) hs hd)) Q) := by
  subst e₃
  iintro ⟨Hfl, HO, HM⟩ Hk
  ihave HM' := (Transfers.MayWaits.elim (SemLoc.dma (semO b))) $$ HM
  iapply (Transfers.wp_waitLocalO countersEmb 𝒱₀ (thr d L) none (default : HIx 1) rfl) $$ [Hfl HO HM']
  · isplitl [Hfl]; · iexact Hfl
    isplitl [HO]; · iexact HO
    iexact HM'
  iintro ⟨⟨Hd, Hs⟩, Hv, HO⟩
  rw [wp_ret]; imodintro
  iapply Hk
  isplitl [Hd]; · iexact Hd
  isplitl [Hs Hv]
  · isplitl [Hs]; · iexact Hs
    iexact Hv
  iexact HO

/-- The gather of the rows that slot `b` names into row slot `b'`, and the wait for it: the slot reading block `n`'s
    words, all of them rows of the table, the row slot ends reading the rows of block `n`. -/
theorem gather {o₁ o₂ : Fin 3 → ℕ} {h₁ : ∀ a, o₁ a + S1x1x256.size a ≤ S2x1x256.size a}
    {h₂ : ∀ a, o₂ a + S1x256x128.size a ≤ S2x256x128.size a} (b b' : Fin 2) (n : Fin 3200) (e₁ : o₁ = ![b.val, 0, 0]) (e₂ : o₂ = ![b'.val, 0, 0])
    {hp : (thr d L).2.kind = .scVector} {hn : S256.numel = S256x128.size gathers_S100000x128_S256x128.axis'} {hs : tabM.view.WordExact}
    {he : EltTy.f32.bits = 32} {hsp : Space.hbm = .hbm ∨ Space.hbm = .shared}
    {hr : S100000x128.StreamRows 0} {hs' : tabM.view.WordExact} {hd : (rowSlotAt o₂ h₂).view.WordExact} {α : Type}
    {k : PUnit → Prog (TpuEff nD τ sig (Elt F) Λ₀ (thr d L).2) α} {Q : α → sProp 𝕄} (hX : ∀ j, (X j).toNat < 100000)
    {O : CellTallies nD τ sig (HIx 1)} {W : Waits sig (HIx 1)} :
    iprop(idxHas d L b (words d X n) ∗ rowAny (F := F) d L b' ∗ (tLoc d ↦{qt} Tb) ∗ semVal (thr d L, SemLoc.dma semG) 0
        ∗ owes (thr d L) O W ∗ Transfers.MayWaits (thr d L) (default : HIx 1) O : sProp 𝕄)
      ⊢ iprop((iprop(idxAny (F := F) d L b ∗ rowHas d L b' (rowsOf d X Tb n) ∗ (tLoc d ↦{qt} Tb) ∗ semVal (thr d L, SemLoc.dma semG) 0
            ∗ owes (thr d L) O (insert (SemLoc.dma semG, default) W)) -∗ wp frame (wpE (defs₀ (F := F)) 𝒱₀ (thr d L) none) Set.univ (k ⟨⟩) Q)
          -∗ wp frame (wpE (defs₀ (F := F)) 𝒱₀ (thr d L) none) Set.univ
            (SparseCore.enqueueIndirectGather hp tabM (rowSlotAt o₂ h₂) gathers_S100000x128_S256x128 (listAt o₁ h₁) hn semG hs he hsp hr
              >>= fun _ => SparseCore.waitIndirectGather semG tabM (rowSlotAt o₂ h₂) hs' hd >>= k) Q) := by
  subst e₁ e₂
  iintro ⟨⟨%f, %hf, Hf⟩, ⟨%g, Hg⟩, Ht, Hv, HO, HM⟩ Hk
  have hin : ∀ x, ((listOf b).view.read (Elt F) f x).toNat < S100000x128.size gathers_S100000x128_S256x128.axis := by
    intro x; rw [read_list d L b f x, hf, words_apply]; exact hX _
  ihave Ht' := (pointsTo_split_subset (ℓ := tLoc d) (q := qt) (f := Tb) (S := Finset.univ) (Finset.subset_univ tabM.view.set)).1 $$ Ht
  icases Ht' with ⟨Ht, Hr⟩
  have hls : (listOf b).view.set = (idxSlot b).view.set := listOf_set b
  iapply (SparseCore.wp_indirectGatherLocal countersEmb 𝒱₀ (thr d L) none (default : HIx 1) (rowSlot b').view.dmaCredit
      (SparseCore.sum_rowCredit_eq_dmaCredit _ _ fun _ => rfl) (by decide) hin) $$ [Ht Hg Hf Hv]
  · isplitl [Ht]; · iexact Ht
    isplitl [Hg]; · iexact Hg
    isplitl [Hf]; · rw [hls]; iexact Hf
    iexact Hv
  iintro Hfl
  ihave HM' := (Transfers.MayWaits.elim (SemLoc.dma semG)) $$ HM
  iapply (Transfers.wp_waitLocalO countersEmb 𝒱₀ (thr d L) none (default : HIx 1) rfl) $$ [Hfl HO HM']
  · isplitl [Hfl]; · iexact Hfl
    isplitl [HO]; · iexact HO
    iexact HM'
  iintro ⟨⟨Hg, Ht, Hf⟩, Hv, HO⟩
  iapply Hk
  isplitl [Hf]
  · iexists f; rw [← hls]; iexact Hf
  isplitl [Hg]
  · iexists _; isplitr; swap; · iexact Hg
    ipureintro
    rw [View.read_write_univ]; exact payload_eq d L X Tb b n f hf hn hin
  isplitl [Ht Hr]
  · iapply (pointsTo_split_subset (ℓ := tLoc d) (q := qt) (f := Tb) (S := Finset.univ) (Finset.subset_univ tabM.view.set)).2
    isplitl [Ht]; · iexact Ht
    iexact Hr
  isplitl [Hv]; · iexact Hv
  iexact HO

end Rules

end Cert.Proof.Slots

end
-- ==== Proof.Counters.lean ====
/-
  What a trip of the pipeline hands the next: the five counters the kernel computes at the end of trip `k`, from the
  five it started with, are the five before trip `k + 1`. Each is computed on every tile and every trip.
-/
module

public import proofs.«01_k».proof.Proof.Words

@[expose] public section

noncomputable section

namespace Cert.Proof.Words

open Cert.KernelIdeal Cert.KernelIdeal.Gen
open Idealize.ShloMosaic

/-- The step after step `s`, round the hundred. -/
abbrev nextW (s : BitVec 32) : BitVec 32 :=
  Scalar.select (Scalar.cmpi .eq (Scalar.select 1#1 (Scalar.addi s 1#32) s) 100#32) 0#32 (Scalar.select 1#1 (Scalar.addi s 1#32) s)
/-- The step before step `s`, round the hundred. -/
abbrev prevW (s : BitVec 32) : BitVec 32 :=
  Scalar.select (Scalar.cmpi .eq (Scalar.select 1#1 (Scalar.subi s 1#32) s) 4294967295#32) 99#32 (Scalar.select 1#1 (Scalar.subi s 1#32) s)
/-- The block of step `s` is not the one after it. -/
abbrev neNext (i : grid0.Coords) (s : BitVec 32) : BitVec 1 := Scalar.cmpi .ne (Scalar.addi s (baseW i)) (Scalar.addi (nextW s) (baseW i))
/-- The block of step `s` is not the one before it. -/
abbrev nePrev (i : grid0.Coords) (s : BitVec 32) : BitVec 1 := Scalar.cmpi .ne (Scalar.addi s (baseW i)) (Scalar.addi (prevW s) (baseW i))

/-- Index blocks asked for. -/
theorem yield0 : ∀ (i : grid0.Coords) (k : Fin 100),
    Scalar.select (Scalar.andi (Scalar.andi (neNext i (BitVec.ofNat 32 (k.val % 100)))
        (Scalar.xori (Scalar.cmpi .sge (Scf.iv 0#32 1#32 k) 99#32) 1#1)) 1#1)
      (Scalar.addi (BitVec.ofNat 32 (min (k.val + 1) 100)) 1#32) (BitVec.ofNat 32 (min (k.val + 1) 100))
      = BitVec.ofNat 32 (min (k.val + 1 + 1) 100) := by decide +kernel
/-- Index blocks taken. -/
theorem yield1 : ∀ (i : grid0.Coords) (k : Fin 100),
    Scalar.select (Scalar.ori (neNext i (BitVec.ofNat 32 (k.val % 100))) (Scalar.cmpi .eq (Scf.iv 0#32 1#32 k) 99#32))
      (Scalar.addi (BitVec.ofNat 32 k.val) 1#32) (BitVec.ofNat 32 k.val) = BitVec.ofNat 32 (k.val + 1) := by decide +kernel
/-- Row blocks sent. -/
theorem yield2 : ∀ (i : grid0.Coords) (k : Fin 100),
    Scalar.select (Scalar.andi (Scalar.ori (neNext i (BitVec.ofNat 32 (k.val % 100))) (Scalar.cmpi .eq (Scf.iv 0#32 1#32 k) 99#32)) 1#1)
      (Scalar.addi (BitVec.ofNat 32 k.val) 1#32) (BitVec.ofNat 32 k.val) = BitVec.ofNat 32 (k.val + 1) := by decide +kernel
/-- Row blocks arrived. -/
theorem yield3 : ∀ (i : grid0.Coords) (k : Fin 100),
    Scalar.select (Scalar.andi (Scalar.andi (nePrev i (BitVec.ofNat 32 (k.val % 100))) (Scalar.xori (Scalar.cmpi .eq (Scf.iv 0#32 1#32 k) 0#32) 1#1)) 1#1)
      (Scalar.addi (BitVec.ofNat 32 (k.val - 1)) 1#32) (BitVec.ofNat 32 (k.val - 1)) = BitVec.ofNat 32 (k.val + 1 - 1) := by decide +kernel
/-- The step. -/
theorem yield4 : ∀ k : Fin 100, nextW (BitVec.ofNat 32 (k.val % 100)) = BitVec.ofNat 32 ((k.val + 1) % 100) := by decide +kernel

end Cert.Proof.Words

end
-- ==== Proof.Trip.lean ====
/-
  One trip of the kernel's pipeline. Before trip `k` the index block of the trip is on its way into the trip's slot, the
  row block of the trip before is on its way out of the other slot, the row blocks before that one are in the result, and
  the rest of the result is as it was. The trip asks for the next index block, waits for its own, gathers the rows it
  names, sends them, and waits for the row block before.
-/
module

public import proofs.«01_k».proof.Proof.Slots
public import proofs.«01_k».proof.Proof.Counters

@[expose] public section

noncomputable section

namespace Cert.Proof.Trip

open Cert.KernelIdeal Cert.KernelIdeal.Gen Cert.Proof.Words Cert.Proof.Slots
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (X : Buf (Elt F) (xLoc d)) (Tb : Buf (Elt F) (tLoc d)) (f₀ : Buf (Elt F) (oLoc d)) (qx : Fin 2 → PosShare TreeShare) (qt : PosShare TreeShare)

/-- The tile's block `n`. -/
abbrev blk (n : ℕ) : Fin 3200 := ⟨min (base L + n) 3199, by omega⟩

theorem blk_val {n : ℕ} (h : n < 100) : (blk L n).val = base L + n := by
  have := base_le L; show min _ _ = _; omega

theorem sl_add_two (k : ℕ) : sl (k + 1 + 1) = sl k := Fin.ext (by show (k + 1 + 1) % 2 = k % 2; omega)

/-- What the next slot is at after the trip has asked for the next index block: that block on its way, or, on the last
    trip, nothing. -/
def NextI (k : ℕ) : sProp 𝕄 := if k < 100 then PendI d L X qx (sl k) (blk L k) else IdleI d L X qx (sl k)
/-- The row block of the trip before, on its way; before the first trip, nothing. -/
def PrevO (k : ℕ) : sProp 𝕄 := if 0 < k then PendO d L X Tb (sl (k + 1)) (blk L (k - 1)) else IdleO (F := F) d L (sl (k + 1))

theorem NextI_lt {k : ℕ} (h : k < 100) : NextI d L X qx k = PendI d L X qx (sl k) (blk L k) := if_pos h
theorem NextI_ge {k : ℕ} (h : ¬ k < 100) : NextI d L X qx k = IdleI d L X qx (sl k) := if_neg h
theorem PrevO_pos {k : ℕ} (h : 0 < k) : PrevO d L X Tb k = PendO d L X Tb (sl (k + 1)) (blk L (k - 1)) := if_pos h
theorem PrevO_zero : PrevO d L X Tb 0 = IdleO (F := F) d L (sl (0 + 1)) := if_neg (by decide)

theorem chk2_at (k : Fin k0_t1_loop.trips) : k0_chk2 (BitVec.ofNat 32 k.val) := chk2_ok k
theorem chk3_at (k : Fin k0_t1_loop.trips) : k0_chk3 (BitVec.ofNat 32 k.val) := chk3_ok k

/-- A side condition that holds is passed. -/
theorem wp_check {P : Prop} {dc : Decidable P} {α : Type} {k : PLift P → Prog (TpuEff nD τ sig (Elt F) Λ₀ (thr d L).2) α} {Q : α → sProp 𝕄} (h : P) :
    wp frame (wpE (defs₀ (F := F)) 𝒱₀ (thr d L) none) Set.univ (Prog.lift (TpuEff.assume P dc) >>= k) Q
      = wp (M := 𝕄) frame (wpE (defs₀ (F := F)) 𝒱₀ (thr d L) none) Set.univ (k ⟨h⟩) Q :=
  wp_assume_of 𝒱₀ (thr d L) none Set.univ h

set_option maxHeartbeats 4000000 in
/-- The first part of trip `k`: the checks, and the next index block asked for unless the trip is the last. -/
theorem part1 (k : Fin k0_t1_loop.trips) {Q : _ → sProp 𝕄} :
    (IdleI d L X qx (sl (k.val + 1)) : sProp 𝕄)
      ⊢ iprop((NextI d L X qx (k.val + 1) -∗ Q ⟨chk3_at k, chk2_at k, chk1_ok L k, Scf.iv 0#32 1#32 k, Scalar.cmpi .eq (Scf.iv 0#32 1#32 k) 0#32,
              Scalar.cmpi .eq (Scf.iv 0#32 1#32 k) 99#32, Scalar.addi (acc k.val).2.2.2.2 (baseW L), Scalar.addi (prevW (acc k.val).2.2.2.2) (baseW L),
              Scalar.addi (nextW (acc k.val).2.2.2.2) (baseW L), (acc (k.val + 1)).1,
              nePrev L (acc k.val).2.2.2.2⟩)
          -∗ wp frame (wpE (defs₀ (F := F)) 𝒱₀ (thr d L) none) Set.univ
            (k0_part1 L (Memref.whole main_arg1_scv) (Memref.isWhole_whole _) (Memref.whole main_v0_scv) (Memref.isWhole_whole _)
              (Memref.whole main_v1_scv) (Memref.isWhole_whole _) (Memref.whole cc0_scoped0) (Memref.isWhole_whole _) cc0_scoped1
              (Memref.whole cc0_scoped2) (Memref.isWhole_whole _) cc0_scoped3 cc0_scoped4 (baseW L) 0#32 1#32 k
              (acc k.val).1 (acc k.val).2.1 (acc k.val).2.2.1 (acc k.val).2.2.2.1 (acc k.val).2.2.2.2) Q) := by
  rw [k0_part1_eq_skeleton]; unfold k0_part1_skel
  rw [wp_check d L (chk3_at k), wp_check d L (chk2_at k), wp_check d L (chk1_ok L k)]
  dsimp only
  iintro HI Hk
  by_cases h : k.val < 99
  · have hc := (cond1_iff L k).2 h
    rw [dif_pos hc, wp_bind]
    iapply (enqI d L X qx (sl (k.val + 1)) (blk L (k.val + 1)) (by rw [blk_val L (by omega)]; exact off5_eq L k h)
      (by rw [Nat.min_eq_left (by omega)]; exact off4_eq ⟨k.val + 1, by omega⟩)
      (by rw [Nat.min_eq_left (by omega)]; exact off6_eq ⟨k.val + 1, by omega⟩)) $$ HI
    iintro HI
    rw [wp_pure]; imodintro
    rw [← yield0 L k]
    iapply Hk
    rw [NextI_lt d L X qx (by omega)]
    iexact HI
  · have hc : ¬ k0_cond1 L k (acc k.val).2.2.2.2 = 1#1 := fun e => h ((cond1_iff L k).1 e)
    rw [dif_neg hc, wp_pure]; imodintro
    rw [← yield0 L k]
    iapply Hk
    rw [NextI_ge d L X qx (by omega)]
    iexact HI

set_option maxHeartbeats 4000000 in
/-- The second part of trip `k`: the wait for the trip's index block and the gather of the rows it names. -/
theorem part2 (k : Fin k0_t1_loop.trips) (hX : ∀ j, (X j).toNat < 100000) {O : CellTallies nD τ sig (HIx 1)} {W : Waits sig (HIx 1)}
    (v5 : BitVec 32) (v64 v65 : BitVec 1) (v66 v71 v76 : BitVec 32) (v96 : BitVec 1) {Q : PUnit → sProp 𝕄} :
    iprop(PendI d L X qx (sl k.val) (blk L k.val) ∗ rowAny (F := F) d L (sl k.val) ∗ (tLoc d ↦{qt} Tb) ∗ semVal (thr d L, SemLoc.dma semG) 0
        ∗ owes (thr d L) O W ∗ Transfers.MayWaits (thr d L) (default : HIx 1) O : sProp 𝕄)
      ⊢ iprop((iprop(IdleI d L X qx (sl k.val) ∗ rowHas d L (sl k.val) (rowsOf d X Tb (blk L k.val)) ∗ (tLoc d ↦{qt} Tb)
            ∗ semVal (thr d L, SemLoc.dma semG) 0
            ∗ owes (thr d L) O (insert (SemLoc.dma semG, default) (insert (SemLoc.dma (semI (sl k.val)), default) W))) -∗ Q ⟨⟩)
          -∗ wp frame (wpE (defs₀ (F := F)) 𝒱₀ (thr d L) none) Set.univ
            (k0_part2 L (Memref.whole main_arg1_scv) (Memref.isWhole_whole _) (Memref.whole main_v0_scv) (Memref.isWhole_whole _)
              (Memref.whole main_v1_scv) (Memref.isWhole_whole _) (Memref.whole cc0_scoped0) (Memref.isWhole_whole _) cc0_scoped1
              (Memref.whole cc0_scoped2) (Memref.isWhole_whole _) cc0_scoped3 cc0_scoped4 k
              (acc k.val).1 (acc k.val).2.1 (acc k.val).2.2.1 (acc k.val).2.2.2.1 (acc k.val).2.2.2.2
              (chk3_at k) (chk2_at k) (chk1_ok L k) v5 v64 v65 v66 v71 v76 v96) Q) := by
  have hk : k.val < 100 := k.isLt
  rw [k0_part2_eq_skeleton]; unfold k0_part2_skel
  dsimp only
  simp only [ite_self]
  rw [dif_pos (cond2_eq L k), wp_bind]
  iintro ⟨HI, HR, Ht, Hv, HO, #HM⟩ Hk
  iapply (waitI d L X qx (sl k.val) (blk L k.val) (off7_eq ⟨k.val, by omega⟩) (off9_eq ⟨k.val, by omega⟩) (O := O) (W := W)) $$ [HI HO]
  · isplitl [HI]; · iexact HI
    isplitl [HO]; · iexact HO
    iexact HM
  iintro ⟨HI, HvI, Hx, HO⟩
  iapply (gather d L X Tb qt (sl k.val) (sl k.val) (blk L k.val) (off11_eq ⟨k.val, by omega⟩) (off10_eq ⟨k.val, by omega⟩) hX (O := O)
    (W := insert (SemLoc.dma (semI (sl k.val)), default) W)) $$ [HI HR Ht Hv HO]
  · isplitl [HI]; · iexact HI
    isplitl [HR]; · iexact HR
    isplitl [Ht]; · iexact Ht
    isplitl [Hv]; · iexact Hv
    isplitl [HO]; · iexact HO
    iexact HM
  iintro ⟨HI, HR, Ht, Hv, HO⟩
  rw [wp_pure]; imodintro
  iapply Hk
  isplitl [HI HvI Hx]
  · isplitl [HI]; · iexact HI
    isplitl [HvI]; · iexact HvI
    iexact Hx
  isplitl [HR]; · iexact HR
  isplitl [Ht]; · iexact Ht
  isplitl [Hv]; · iexact Hv
  iexact HO

/-- The result's blocks already gathered before trip `k`, and in the result. -/
abbrev Done (k : ℕ) : sProp 𝕄 := bigSep (Finset.range (k - 1)) fun n => outPts d (blk L n) (G d X Tb)
/-- The result's blocks trip `k` and those after it are to fill, as they were. -/
abbrev Todo (k : ℕ) : sProp 𝕄 := bigSep (Finset.Ico k 100) fun n => outPts d (blk L n) f₀
/-- What the tile owes: as at the launch, but for waits at the launch's own index. -/
abbrev Owed (O : CellTallies nD τ sig (HIx 1)) (W : Waits sig (HIx 1)) : sProp 𝕄 :=
  iprop(∃ W' : Waits sig (HIx 1), ⌜∀ p ∈ W', p ∈ W ∨ p.2 = none⌝ ∗ owes (thr d L) O W')

/-- What holds before trip `k`. -/
def Inv (O : CellTallies nD τ sig (HIx 1)) (W : Waits sig (HIx 1)) (k : ℕ) (a : BitVec 32 × BitVec 32 × BitVec 32 × BitVec 32 × BitVec 32) : sProp 𝕄 :=
  iprop(⌜a = acc k⌝ ∗ NextI d L X qx k ∗ IdleI d L X qx (sl (k + 1)) ∗ IdleO (F := F) d L (sl k) ∗ PrevO d L X Tb k
    ∗ (tLoc d ↦{qt} Tb) ∗ semVal (thr d L, SemLoc.dma semG) 0 ∗ Done d L X Tb k ∗ Todo d L f₀ k
    ∗ Transfers.MayWaits (thr d L) (default : HIx 1) O ∗ Owed d L O W)

theorem todo_step {k : ℕ} (h : k < 100) : (Todo d L f₀ k : sProp 𝕄) = iprop(outPts d (blk L k) f₀ ∗ Todo d L f₀ (k + 1)) := by
  have e : Finset.Ico k 100 = insert k (Finset.Ico (k + 1) 100) := by
    ext x; simp only [Finset.mem_Ico, Finset.mem_insert]; omega
  unfold Todo
  rw [e]; exact BI.bigSep_insert (by simp)

theorem done_step {k : ℕ} (h : 0 < k) : (Done d L X Tb (k + 1) : sProp 𝕄) = iprop(outPts d (blk L (k - 1)) (G d X Tb) ∗ Done d L X Tb k) := by
  obtain ⟨k, rfl⟩ := Nat.exists_eq_add_of_lt h
  unfold Done
  simp only [Nat.zero_add, Nat.add_sub_cancel]
  rw [Finset.range_add_one]; exact BI.bigSep_insert (by simp)

theorem PrevO_succ (k : ℕ) : PrevO d L X Tb (k + 1) = PendO d L X Tb (sl k) (blk L k) := by
  rw [PrevO_pos d L X Tb (Nat.succ_pos k), sl_add_two]; rfl

theorem waits_insert {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.1 hp with rfl | hp
  · exact .inr rfl
  · exact h p hp

set_option maxHeartbeats 8000000 in
/-- Trip `k` takes what holds before it to what holds before the next. -/
theorem trip (hX : ∀ j, (X j).toNat < 100000) (O : CellTallies nD τ sig (HIx 1)) (W : Waits sig (HIx 1)) (k : Fin k0_t1_loop.trips)
    (a : BitVec 32 × BitVec 32 × BitVec 32 × BitVec 32 × BitVec 32) :
    (Inv d L X Tb f₀ qx qt O W k.val a : sProp 𝕄)
      ⊢ wp frame (wpE (defs₀ (F := F)) 𝒱₀ (thr d L) none) Set.univ
          (k0_t1_body L (Memref.whole main_arg1_scv) (Memref.isWhole_whole _) (Memref.whole main_v0_scv) (Memref.isWhole_whole _)
            (Memref.whole main_v1_scv) (Memref.isWhole_whole _) (Memref.whole cc0_scoped0) (Memref.isWhole_whole _) cc0_scoped1
            (Memref.whole cc0_scoped2) (Memref.isWhole_whole _) cc0_scoped3 cc0_scoped4 (baseW L) k a)
          (Inv d L X Tb f₀ qx qt O W (k.val + 1)) := by
  have hk : k.val < 100 := k.isLt
  unfold Inv
  iintro ⟨%ha, HN, HI, ⟨HR, HvR⟩, HP, Ht, Hv, HD, HT, #HM, ⟨%W', %hW', HO⟩⟩
  subst ha
  unfold k0_t1_body
  rw [wp_bind]
  iapply (part1 d L X qx k) $$ HI
  iintro HN'
  dsimp only
  simp only [ite_self]
  rw [wp_bind]
  ihave HN := (Entails.of_eq (NextI_lt d L X qx hk)) $$ HN
  iapply (part2 d L X Tb qx qt k hX (O := O) (W := W') (Scf.iv 0#32 1#32 k)) $$ [HN HR Ht Hv HO]
  · isplitl [HN]; · iexact HN
    isplitl [HR]; · iexact HR
    isplitl [Ht]; · iexact Ht
    isplitl [Hv]; · iexact Hv
    isplitl [HO]; · iexact HO
    iexact HM
  iintro ⟨HI, HR, Ht, Hv, HO⟩
  ihave HT := (Entails.of_eq (todo_step d L f₀ hk)) $$ HT
  icases HT with ⟨Hb, HT⟩
  rw [dif_pos (cond5_eq L k), wp_bind]
  iapply (enqO d L X Tb (sl k.val) (blk L k.val) (by rw [blk_val L hk]; exact off13_eq L k) (off12_eq ⟨k.val, by omega⟩) (off14_eq ⟨k.val, by omega⟩) f₀) $$ [HR HvR Hb]
  · isplitl [HR]; · iexact HR
    isplitl [HvR]; · iexact HvR
    iexact Hb
  iintro HPn
  by_cases h0 : 0 < k.val
  · rw [dif_pos ((cond7_iff L k).2 h0), wp_bind]
    ihave HP := (Entails.of_eq (PrevO_pos d L X Tb h0)) $$ HP
    iapply (waitO d L X Tb (sl (k.val + 1)) (blk L (k.val - 1))
      ((off17_eq ⟨k.val - 1, by omega⟩).trans (by
        show ![(k.val - 1) % 2] = ![(k.val + 1) % 2]; congr 1; omega)) (O := O)) $$ [HP HO]
    · isplitl [HP]; · iexact HP
      isplitl [HO]; · iexact HO
      iexact HM
    iintro ⟨Hb, HOn, HO⟩
    rw [wp_pure]; imodintro
    isplitr
    · ipureintro
      refine Prod.ext rfl (Prod.ext (yield1 L k) (Prod.ext (yield2 L k) (Prod.ext (yield3 L k) (yield4 k))))
    isplitl [HN']; · iexact HN'
    isplitl [HI]; · rw [sl_add_two]; iexact HI
    isplitl [HOn]; · iexact HOn
    isplitl [HPn]; · rw [PrevO_succ]; iexact HPn
    isplitl [Ht]; · iexact Ht
    isplitl [Hv]; · iexact Hv
    isplitl [HD Hb]
    · rw [done_step d L X Tb h0]
      isplitl [Hb]; · iexact Hb
      iexact HD
    isplitl [HT]; · iexact HT
    isplitr; · iexact HM
    iexists _; isplitr; swap; · iexact HO
    ipureintro
    exact waits_insert (waits_insert (waits_insert hW' _) _) _
  · have hk0 : k.val = 0 := by omega
    rw [dif_neg fun e => h0 ((cond7_iff L k).1 e)]
    rw [wp_pure]; imodintro
    isplitr
    · ipureintro
      refine Prod.ext rfl (Prod.ext (yield1 L k) (Prod.ext (yield2 L k) (Prod.ext (yield3 L k) (yield4 k))))
    isplitl [HN']; · iexact HN'
    isplitl [HI]; · rw [sl_add_two]; iexact HI
    isplitl [HP]; · iapply (Entails.of_eq (show PrevO d L X Tb k.val = IdleO (F := F) d L (sl (k.val + 1)) by rw [hk0]; exact PrevO_zero d L X Tb)) $$ HP
    isplitl [HPn]; · rw [PrevO_succ]; iexact HPn
    isplitl [Ht]; · iexact Ht
    isplitl [Hv]; · iexact Hv
    isplitl [HD]
    · iapply (Entails.of_eq (show (Done d L X Tb k.val : sProp 𝕄) = Done d L X Tb (k.val + 1) by rw [hk0])) $$ HD
    isplitl [HT]; · iexact HT
    isplitr; · iexact HM
    iexists _; isplitr; swap; · iexact HO
    ipureintro
    exact waits_insert (waits_insert hW' _) _

end Cert.Proof.Trip

end
-- ==== Proof.Tile.lean ====
/-
  One tile's run of the kernel: the first index block asked for, the hundred trips, and the wait for the last row block.
  The tile ends with its hundred blocks of the result at the gathered rows and everything else as it was.
-/
module

public import proofs.«01_k».proof.Proof.Trip

@[expose] public section

noncomputable section

namespace Cert.Proof.Tile

open Cert.KernelIdeal Cert.KernelIdeal.Gen Cert.Proof.Words Cert.Proof.Slots Cert.Proof.Trip
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (X : Buf (Elt F) (xLoc d)) (Tb : Buf (Elt F) (tLoc d)) (f₀ : Buf (Elt F) (oLoc d)) (qx : Fin 2 → PosShare TreeShare) (qt : PosShare TreeShare)

/-- The start: the tile's first index block asked for, into the first slot. -/
theorem part3 {Q : BitVec 32 → sProp 𝕄} :
    (IdleI d L X qx (sl 0) : sProp 𝕄)
      ⊢ iprop((PendI d L X qx (sl 0) (blk L 0) -∗ Q (baseW L))
          -∗ wp frame (wpE (defs₀ (F := F)) 𝒱₀ (thr d L) none) Set.univ
            (k0_part3 L (Memref.whole main_arg1_scv) (Memref.isWhole_whole _) (Memref.whole main_v0_scv) (Memref.isWhole_whole _)
              (Memref.whole main_v1_scv) (Memref.isWhole_whole _) (Memref.whole cc0_scoped0) (Memref.isWhole_whole _) cc0_scoped1
              (Memref.whole cc0_scoped2) (Memref.isWhole_whole _) cc0_scoped3 cc0_scoped4) Q) := by
  rw [k0_part3_eq_skeleton]; unfold k0_part3_skel
  dsimp only
  rw [wp_bind]
  iintro HI Hk
  iapply (enqI d L X qx (sl 0) (blk L 0) (by rw [blk_val L (by omega)]; exact off2_eq L) (by decide) (by decide)) $$ HI
  iintro HI
  rw [wp_pure]; imodintro
  iapply Hk; iexact HI

/-- The counters before trip `k` are the ones the pipeline should have. -/
theorem Inv_acc (O : CellTallies nD τ sig (HIx 1)) (W : Waits sig (HIx 1)) (k : ℕ) (a : BitVec 32 × BitVec 32 × BitVec 32 × BitVec 32 × BitVec 32) :
    (Trip.Inv d L X Tb f₀ qx qt O W k a : sProp 𝕄) ⊢ iprop(⌜a = acc k⌝ ∗ Trip.Inv d L X Tb f₀ qx qt O W k a) := by
  unfold Trip.Inv
  iintro ⟨%ha, H⟩
  isplitr; · ipureintro; exact ha
  isplitr; · ipureintro; exact ha
  iexact H

set_option maxHeartbeats 4000000 in
/-- The trips, from the first to the last. -/
theorem part4 (hX : ∀ j, (X j).toNat < 100000) (O : CellTallies nD τ sig (HIx 1)) (W : Waits sig (HIx 1)) {Q : _ → sProp 𝕄} :
    (Trip.Inv d L X Tb f₀ qx qt O W 0 (acc 0) : sProp 𝕄)
      ⊢ iprop((Trip.Inv d L X Tb f₀ qx qt O W 100 (acc 100) -∗ Q ⟨BitVec.ofNat 32 99, BitVec.ofNat 32 0, chk5_ok L, chk4_ok⟩)
          -∗ wp frame (wpE (defs₀ (F := F)) 𝒱₀ (thr d L) none) Set.univ
            (k0_part4 L (Memref.whole main_arg1_scv) (Memref.isWhole_whole _) (Memref.whole main_v0_scv) (Memref.isWhole_whole _)
              (Memref.whole main_v1_scv) (Memref.isWhole_whole _) (Memref.whole cc0_scoped0) (Memref.isWhole_whole _) cc0_scoped1
              (Memref.whole cc0_scoped2) (Memref.isWhole_whole _) cc0_scoped3 cc0_scoped4 (baseW L)) Q) := by
  rw [k0_part4_eq_skeleton]; unfold k0_part4_skel
  dsimp only
  iintro HI Hk
  iapply (Scf.wp_for_bind _ _ _ _ _ _ _ _ _ (Trip.Inv d L X Tb f₀ qx qt O W) (trip d L X Tb f₀ qx qt hX O W)) $$ HI
  iintro %a HI
  rw [show Scf.trips k0_t1_loop.lb k0_t1_loop.ub k0_t1_loop.st = 100 from by decide]
  ihave HI := (Inv_acc d L X Tb f₀ qx qt O W 100 a) $$ HI
  icases HI with ⟨%ha, HI⟩
  subst ha
  dsimp only
  rw [wp_check d L (chk5_ok L), wp_check d L chk4_ok, wp_pure]; imodintro
  iapply Hk; iexact HI

/-- What the tile starts from: its share of the table, its two shares of the index list, its blocks of the result, its
    slots and its semaphores. -/
abbrev TileIn (O : CellTallies nD τ sig (HIx 1)) (W : Waits sig (HIx 1)) (f : Buf (Elt F) (oLoc d)) : sProp 𝕄 :=
  iprop(IdleI d L X qx (sl 0) ∗ IdleI d L X qx (sl 1) ∗ IdleO (F := F) d L (sl 0) ∗ IdleO (F := F) d L (sl 1) ∗ (tLoc d ↦{qt} Tb)
    ∗ semVal (thr d L, SemLoc.dma semG) 0 ∗ (bigSep (Finset.range 100) fun n => outPts d (blk L n) f)
    ∗ Owed d L O W)

theorem start_eq : (Todo d L f₀ 0 : sProp 𝕄) = bigSep (Finset.range 100) fun n => outPts d (blk L n) f₀ := by
  unfold Todo; rw [Nat.Ico_zero_eq_range]

theorem end_eq : (bigSep (Finset.range 100) fun n => outPts d (blk L n) (G d X Tb) : sProp 𝕄)
    = iprop(outPts d (blk L 99) (G d X Tb) ∗ Done d L X Tb 100) := done_step d L X Tb (k := 100) (by decide)

set_option maxHeartbeats 4000000 in
/-- The whole of a tile's run. -/
theorem run (hX : ∀ j, (X j).toNat < 100000) (O : CellTallies nD τ sig (HIx 1)) (W : Waits sig (HIx 1)) :
    iprop(TileIn d L X Tb qx qt O W f₀ ∗ Transfers.MayWaits (thr d L) (default : HIx 1) O : sProp 𝕄)
      ⊢ wp frame (wpE (defs₀ (F := F)) 𝒱₀ (thr d L) none) Set.univ
          (cc0_gather_kernel L (Memref.whole main_arg1_scv) (Memref.isWhole_whole _) (Memref.whole main_v0_scv) (Memref.isWhole_whole _)
            (Memref.whole main_v1_scv) (Memref.isWhole_whole _) (Memref.whole cc0_scoped0) (Memref.isWhole_whole _) cc0_scoped1
            (Memref.whole cc0_scoped2) (Memref.isWhole_whole _) cc0_scoped3 cc0_scoped4)
          (fun _ => TileIn d L X Tb qx qt O W (G d X Tb)) := by
  rw [cc0_gather_kernel_eq_skeleton]; unfold cc0_gather_kernel_skel
  iintro ⟨⟨HI0, HI1, HO0, HO1, Ht, Hv, Ho, HW⟩, #HM⟩
  rw [wp_bind]
  iapply (part3 d L X qx) $$ HI0
  iintro HI0
  rw [wp_bind]
  iapply (part4 d L X Tb f₀ qx qt hX O W) $$ [HI0 HI1 HO0 HO1 Ht Hv Ho HW]
  · unfold Trip.Inv
    isplitr; · ipureintro; rfl
    isplitl [HI0]; · rw [NextI_lt d L X qx (by decide)]; iexact HI0
    isplitl [HI1]; · iexact HI1
    isplitl [HO0]; · iexact HO0
    isplitl [HO1]; · rw [PrevO_zero]; iexact HO1
    isplitl [Ht]; · iexact Ht
    isplitl [Hv]; · iexact Hv
    isplitr; · rw [show (Done d L X Tb 0 : sProp 𝕄) = BI.emp from BI.bigSep_empty]; iempintro
    isplitl [Ho]; · rw [start_eq]; iexact Ho
    isplitr; · iexact HM
    iexact HW
  unfold Trip.Inv
  iintro ⟨-, HI0, HI1, HO0, HP, Ht, Hv, HD, -, -, ⟨%W', %hW', HO⟩⟩
  dsimp only
  rw [wp_bind]
  ihave HP := (Entails.of_eq (PrevO_pos d L X Tb (k := 100) (by decide))) $$ HP
  iapply (waitO d L X Tb (sl 101) (blk L 99) off20_eq (O := O)) $$ [HP HO]
  · isplitl [HP]; · iexact HP
    isplitl [HO]; · iexact HO
    iexact HM
  iintro ⟨Hb, HO1, HO⟩
  rw [wp_pure]; imodintro
  isplitl [HI0]; · iapply (Entails.of_eq (show NextI d L X qx 100 = IdleI d L X qx (sl 0) from NextI_ge d L X qx (by decide))) $$ HI0
  isplitl [HI1]; · iexact HI1
  isplitl [HO0]; · iexact HO0
  isplitl [HO1]; · iexact HO1
  isplitl [Ht]; · iexact Ht
  isplitl [Hv]; · iexact Hv
  isplitl [HD Hb]
  · rw [end_eq]
    isplitl [Hb]; · iexact Hb
    iexact HD
  iexists _; isplitr; swap; · iexact HO
  ipureintro
  exact waits_insert hW' _

end Cert.Proof.Tile

end
-- ==== Proof.Split.lean ====
/-
  How the call's arrays divide among the tiles and a tile's own buffers into its slots: the result's 3200 blocks into 2
  SparseCores of 16 tiles of 100 blocks, the index list and the table by shares, each of a tile's two buffers into two
  slots.
-/
module

public import proofs.«01_k».proof.Proof.Tile
public import Idealize.ShloMosaic.Lib.ShareLeaves

@[expose] public section

noncomputable section

namespace Cert.Proof.Split

open Cert.KernelIdeal Cert.KernelIdeal.Gen Cert.Proof.Words Cert.Proof.Slots Cert.Proof.Trip Cert.Proof.Tile
open Idealize.ShloMosaic
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tiles -/

/-- The grid point of tile `i` of SparseCore `c`. -/
def coords (c : Fin 2) (i : Fin 16) : grid0.Coords :=
  fun | 0 => c | 1 => i | ⟨_ + 2, h⟩ => absurd h (Nat.not_lt.2 (Nat.le_add_left _ _))

theorem base_coords (c : Fin 2) (i : Fin 16) : base (coords c i) = 100 * (i.val + 16 * c.val) := rfl

/-! ## The result's blocks -/

/-- An element lies in block `n` when its row does. -/
theorem mem_outBlk (n : Fin 3200) (j : S819200x128.Idx) : j ∈ (outBlk n).view.set ↔ (j 0).val / 256 = n.val := by
  show j ∈ ((View.whole (main_v1_scv : Ref sig .scVector)).slice (Rect.unit (s := S819200x128) ![256 * n.val, 0] S256x128.size (outBlk_inb n))).set ↔ _
  rw [View.set_slice_whole, Rect.mem_set_unit]
  have h1 : (j 1).val < 128 := (j 1).isLt
  constructor
  · intro h
    have h0 : 256 * n.val ≤ (j 0).val ∧ (j 0).val < 256 * n.val + 256 := h 0
    omega
  · intro h a
    match a with
    | 0 => show 256 * n.val ≤ (j 0).val ∧ (j 0).val < 256 * n.val + 256; omega
    | 1 => show 0 ≤ (j 1).val ∧ (j 1).val < 0 + 128; omega

/-- And in a tile's block `n`. -/
theorem mem_blk (c : Fin 2) (i : Fin 16) {n : ℕ} (hn : n < 100) (j : S819200x128.Idx) :
    j ∈ (outBlk (blk (coords c i) n)).view.set ↔ (j 0).val / 256 = 100 * (i.val + 16 * c.val) + n := by
  rw [mem_outBlk (blk (coords c i) n) j, blk_val _ hn, base_coords]

/-- The elements of a tile's hundred blocks. -/
def tileSet (c : Fin 2) (i : Fin 16) : Finset S819200x128.Idx := (Finset.range 100).biUnion fun n => (outBlk (blk (coords c i) n)).view.set
/-- The elements of a SparseCore's sixteen tiles. -/
def coreSet (c : Fin 2) : Finset S819200x128.Idx := Finset.univ.biUnion fun i : Fin 16 => tileSet c i

theorem mem_tileSet (c : Fin 2) (i : Fin 16) (j : S819200x128.Idx) : j ∈ tileSet c i ↔ (j 0).val / 25600 = i.val + 16 * c.val := by
  constructor
  · intro h
    obtain ⟨n, hn, h⟩ := Finset.mem_biUnion.1 h
    have hn := Finset.mem_range.1 hn
    have h := (mem_blk c i hn j).1 h
    omega
  · intro h
    have hn : (j 0).val / 256 % 100 < 100 := Nat.mod_lt _ (by decide)
    exact Finset.mem_biUnion.2 ⟨(j 0).val / 256 % 100, Finset.mem_range.2 hn, (mem_blk c i hn j).2 (by omega)⟩

theorem mem_coreSet (c : Fin 2) (j : S819200x128.Idx) : j ∈ coreSet c ↔ (j 0).val / 409600 = c.val := by
  unfold coreSet
  simp only [Finset.mem_biUnion, Finset.mem_univ, true_and, mem_tileSet]
  have hc := c.isLt
  constructor
  · rintro ⟨i, h⟩; have := i.isLt; omega
  · intro h
    exact ⟨⟨(j 0).val / 25600 - 16 * c.val, by omega⟩, by show _ = ((j 0).val / 25600 - 16 * c.val) + 16 * c.val; omega⟩

theorem blks_disjoint (c : Fin 2) (i : Fin 16) : ∀ n ∈ Finset.range 100, ∀ n' ∈ Finset.range 100, n ≠ n' →
    Disjoint (outBlk (blk (coords c i) n)).view.set (outBlk (blk (coords c i) n')).view.set := by
  intro n hn n' hn' h
  refine Finset.disjoint_left.2 fun j hj hj' => h ?_
  have e := (mem_blk c i (Finset.mem_range.1 hn) j).1 hj
  have e' := (mem_blk c i (Finset.mem_range.1 hn') j).1 hj'
  omega

theorem tiles_disjoint (c : Fin 2) : ∀ i ∈ (Finset.univ : Finset (Fin 16)), ∀ i' ∈ (Finset.univ : Finset (Fin 16)), i ≠ i' → Disjoint (tileSet c i) (tileSet c i') := by
  intro i _ i' _ h
  refine Finset.disjoint_left.2 fun j hj hj' => h (Fin.ext ?_)
  have e := (mem_tileSet _ _ j).1 hj
  have e' := (mem_tileSet _ _ j).1 hj'
  omega

theorem cores_disjoint : ∀ c ∈ (Finset.univ : Finset (Fin 2)), ∀ c' ∈ (Finset.univ : Finset (Fin 2)), c ≠ c' → Disjoint (coreSet c) (coreSet c') := by
  intro c _ c' _ h
  refine Finset.disjoint_left.2 fun j hj hj' => h (Fin.ext ?_)
  rw [← (mem_coreSet _ j).1 hj, ← (mem_coreSet _ j).1 hj']

theorem cores_cover : (Finset.univ : Finset (Fin 2)).biUnion coreSet = Finset.univ := by
  refine Finset.eq_univ_iff_forall.2 fun j => ?_
  have hj : (j 0).val < 819200 := (j 0).isLt
  exact Finset.mem_biUnion.2 ⟨⟨(j 0).val / 409600, by omega⟩, Finset.mem_univ _, (mem_coreSet _ j).2 rfl⟩

/-- A tile's part of the result is its hundred blocks. -/
theorem tile_blocks (d : Dev nD) (c : Fin 2) (i : Fin 16) (f : Buf (Elt F) (oLoc d)) :
    (oLoc d ↦[tileSet c i]{fullShare} f : sProp 𝕄) = bigSep (Finset.range 100) fun n => outPts d (blk (coords c i) n) f :=
  pointsTo_biUnion (Finset.range 100) (ℓ := oLoc d) (fun n => (outBlk (blk (coords c i) n)).view.set) (blks_disjoint c i)

/-- A SparseCore's part of the result is its sixteen tiles'. -/
theorem core_tiles (d : Dev nD) (c : Fin 2) (f : Buf (Elt F) (oLoc d)) :
    (oLoc d ↦[coreSet c]{fullShare} f : sProp 𝕄) = bigSep Finset.univ fun i : Fin 16 => oLoc d ↦[tileSet c i]{fullShare} f :=
  pointsTo_biUnion Finset.univ (ℓ := oLoc d) (fun i => tileSet c i) (tiles_disjoint c)

/-- The result is the two SparseCores' parts. -/
theorem out_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]

/-! ## The shares -/

/-- SparseCore `c`'s share of an array every tile reads. -/
abbrev qc (c : Fin 2) : PosShare TreeShare := ShareLeaves.leaf 1 fullShare c
/-- Tile `i`'s. -/
abbrev qi (c : Fin 2) (i : Fin 16) : PosShare TreeShare := ShareLeaves.leaf 4 (qc c) i
/-- Slot `b`'s. -/
abbrev qb (c : Fin 2) (i : Fin 16) : Fin 2 → PosShare TreeShare := fun b => ShareLeaves.leaf 1 (qi c i) b

theorem share_cores {ℓ : Loc nD τ sig} (f : Buf (Elt F) ℓ) : (ℓ ↦{fullShare} f : sProp 𝕄) = bigSep Finset.univ fun c : Fin 2 => ℓ ↦{qc c} f :=
  ShareLeaves.pointsTo_leaves Finset.univ f 1 fullShare
theorem share_tiles {ℓ : Loc nD τ sig} (f : Buf (Elt F) ℓ) (c : Fin 2) : (ℓ ↦{qc c} f : sProp 𝕄) = bigSep Finset.univ fun i : Fin 16 => ℓ ↦{qi c i} f :=
  ShareLeaves.pointsTo_leaves Finset.univ f 4 (qc c)
theorem share_slots {ℓ : Loc nD τ sig} (f : Buf (Elt F) ℓ) (c : Fin 2) (i : Fin 16) :
    (ℓ ↦{qi c i} f : sProp 𝕄) = iprop((ℓ ↦{qb c i (sl 0)} f) ∗ ℓ ↦{qb c i (sl 1)} f) :=
  (ShareLeaves.pointsTo_leaves Finset.univ f 1 (qi c i)).trans (BI.bigSep_fin_two _)

/-! ## A tile's slots -/

theorem mem_idxSlot (b : Fin 2) (j : S2x1x256.Idx) : j ∈ (idxSlot b).view.set ↔ j 0 = b := by
  show j ∈ (((View.whole (cc0_scoped0 : Ref sig .scVector)).slice (Rect.unit (s := S2x1x256) ![b.val, 0, 0] S1x1x256.size (idxSlot_inb b))).reshape S1x256
    squeezes_S1x1x256_S1x256.numel_eq).set ↔ _
  rw [View.set_reshape, View.set_slice_whole, Rect.mem_set_unit]
  have h1 : (j 1).val < 1 := (j 1).isLt
  have h2 : (j 2).val < 256 := (j 2).isLt
  constructor
  · intro h
    have h0 : b.val ≤ (j 0).val ∧ (j 0).val < b.val + 1 := h 0
    exact Fin.ext (by omega)
  · intro h a
    have h' : (j 0).val = b.val := congrArg Fin.val h
    match a with
    | 0 => show b.val ≤ (j 0).val ∧ (j 0).val < b.val + 1; omega
    | 1 => show 0 ≤ (j 1).val ∧ (j 1).val < 0 + 1; omega
    | 2 => show 0 ≤ (j 2).val ∧ (j 2).val < 0 + 256; omega

theorem mem_rowSlot (b : Fin 2) (j : S2x256x128.Idx) : j ∈ (rowSlot b).view.set ↔ j 0 = b := by
  show j ∈ (((View.whole (cc0_scoped2 : Ref sig .scVector)).slice (Rect.unit (s := S2x256x128) ![b.val, 0, 0] S1x256x128.size (rowSlot_inb b))).reshape S256x128
    squeezes_S1x256x128_S256x128.numel_eq).set ↔ _
  rw [View.set_reshape, View.set_slice_whole, Rect.mem_set_unit]
  have h1 : (j 1).val < 256 := (j 1).isLt
  have h2 : (j 2).val < 128 := (j 2).isLt
  constructor
  · intro h
    have h0 : b.val ≤ (j 0).val ∧ (j 0).val < b.val + 1 := h 0
    exact Fin.ext (by omega)
  · intro h a
    have h' : (j 0).val = b.val := congrArg Fin.val h
    match a with
    | 0 => show b.val ≤ (j 0).val ∧ (j 0).val < b.val + 1; omega
    | 1 => show 0 ≤ (j 1).val ∧ (j 1).val < 0 + 256; omega
    | 2 => show 0 ≤ (j 2).val ∧ (j 2).val < 0 + 128; omega

variable (d : Dev nD) (L : grid0.Coords)

abbrev idxSet (b : Fin 2) : Finset S2x1x256.Idx := (idxSlot b).view.set
abbrev rowSet (b : Fin 2) : Finset S2x256x128.Idx := (rowSlot b).view.set
abbrev iBuf : Loc nD τ sig := (thr d L).loc cc0_scoped0
abbrev rBuf : Loc nD τ sig := (thr d L).loc cc0_scoped2

theorem idx_disjoint : ∀ b ∈ (Finset.univ : Finset (Fin 2)), ∀ b' ∈ (Finset.univ : Finset (Fin 2)), b ≠ b' → Disjoint (idxSet b) (idxSet b') :=
  fun _ _ _ _ h => Finset.disjoint_left.2 fun j hj hj' => h (((mem_idxSlot _ j).1 hj).symm.trans ((mem_idxSlot _ j).1 hj'))
theorem idx_cover : (Finset.univ : Finset (Fin 2)).biUnion idxSet = Finset.univ :=
  Finset.eq_univ_iff_forall.2 fun (j : S2x1x256.Idx) => Finset.mem_biUnion.2 ⟨j 0, Finset.mem_univ _, (mem_idxSlot _ j).2 rfl⟩
theorem row_disjoint : ∀ b ∈ (Finset.univ : Finset (Fin 2)), ∀ b' ∈ (Finset.univ : Finset (Fin 2)), b ≠ b' → Disjoint (rowSet b) (rowSet b') :=
  fun _ _ _ _ h => Finset.disjoint_left.2 fun j hj hj' => h (((mem_rowSlot _ j).1 hj).symm.trans ((mem_rowSlot _ j).1 hj'))
theorem row_cover : (Finset.univ : Finset (Fin 2)).biUnion rowSet = Finset.univ :=
  Finset.eq_univ_iff_forall.2 fun (j : S2x256x128.Idx) => Finset.mem_biUnion.2 ⟨j 0, Finset.mem_univ _, (mem_rowSlot _ j).2 rfl⟩

/-- The index buffer, whole, is its two slots. -/
theorem idx_split : (iprop(∃ f, iBuf d L ↦{fullShare} f) : sProp 𝕄) ⊢ iprop(idxAny (F := F) d L (sl 0) ∗ idxAny (F := F) d L (sl 1)) := by
  iintro ⟨%f, H⟩
  ihave H' := (Entails.of_eq (show (iBuf d L ↦{fullShare} f : sProp 𝕄)
      = iprop((iBuf d L ↦[(idxSlot (sl 0)).view.set]{fullShare} f) ∗ iBuf d L ↦[(idxSlot (sl 1)).view.set]{fullShare} f) by
    rw [← idx_cover, pointsTo_biUnion Finset.univ (ℓ := iBuf d L) idxSet idx_disjoint, BI.bigSep_fin_two]; rfl)) $$ H
  icases H' with ⟨H0, H1⟩
  isplitl [H0]
  · iexists f; iexact H0
  · iexists f; iexact H1

/-- And back. -/
theorem idx_join : (iprop(idxAny (F := F) d L (sl 0) ∗ idxAny (F := F) d L (sl 1)) : sProp 𝕄) ⊢ iprop(∃ f, iBuf d L ↦{fullShare} f) := by
  iintro ⟨⟨%f, H0⟩, ⟨%g, H1⟩⟩
  ihave H := (pointsTo_biUnion_join (ℓ := iBuf d L) (q := fullShare) (Val := Elt F) Finset.univ idxSet
    (fun b => if b = 0 then f else g) f idx_disjoint) $$ [H0 H1]
  · iapply (Entails.of_eq (show iprop((iBuf d L ↦[idxSet 0]{fullShare} f) ∗ iBuf d L ↦[idxSet 1]{fullShare} g) = _ from
      (BI.bigSep_fin_two (fun b : Fin 2 => (iBuf d L ↦[idxSet b]{fullShare} (if b = 0 then f else g) : sProp 𝕄))).symm))
    isplitl [H0]; · iexact H0
    iexact H1
  icases H with ⟨%h, -, H⟩
  rw [idx_cover]
  iexists h; iexact H

/-- The row buffer, whole, is its two slots. -/
theorem row_split : (iprop(∃ f, rBuf d L ↦{fullShare} f) : sProp 𝕄) ⊢ iprop(rowAny (F := F) d L (sl 0) ∗ rowAny (F := F) d L (sl 1)) := by
  iintro ⟨%f, H⟩
  ihave H' := (Entails.of_eq (show (rBuf d L ↦{fullShare} f : sProp 𝕄)
      = iprop((rBuf d L ↦[(rowSlot (sl 0)).view.set]{fullShare} f) ∗ rBuf d L ↦[(rowSlot (sl 1)).view.set]{fullShare} f) by
    rw [← row_cover, pointsTo_biUnion Finset.univ (ℓ := rBuf d L) rowSet row_disjoint, BI.bigSep_fin_two]; rfl)) $$ H
  icases H' with ⟨H0, H1⟩
  isplitl [H0]
  · iexists f; iexact H0
  · iexists f; iexact H1

/-- And back. -/
theorem row_join : (iprop(rowAny (F := F) d L (sl 0) ∗ rowAny (F := F) d L (sl 1)) : sProp 𝕄) ⊢ iprop(∃ f, rBuf d L ↦{fullShare} f) := by
  iintro ⟨⟨%f, H0⟩, ⟨%g, H1⟩⟩
  ihave H := (pointsTo_biUnion_join (ℓ := rBuf d L) (q := fullShare) (Val := Elt F) Finset.univ rowSet
    (fun b => if b = 0 then f else g) f row_disjoint) $$ [H0 H1]
  · iapply (Entails.of_eq (show iprop((rBuf d L ↦[rowSet 0]{fullShare} f) ∗ rBuf d L ↦[rowSet 1]{fullShare} g) = _ from
      (BI.bigSep_fin_two (fun b : Fin 2 => (rBuf d L ↦[rowSet b]{fullShare} (if b = 0 then f else g) : sProp 𝕄))).symm))
    isplitl [H0]; · iexact H0
    iexact H1
  icases H with ⟨%h, -, H⟩
  rw [row_cover]
  iexists h; iexact H

/-! ## A tile's own semaphores and buffers -/

abbrev cell (s : DmaSem sig) : GSem nD τ sig := (thr d L, SemLoc.dma s)

/-- The tile's own semaphores, at zero: the pipeline's five, and the rest. -/
theorem ownSems_eq :
    ∃ R : sProp 𝕄, (ownSems0 (thr d L) : sProp 𝕄)
      = iprop(semVal (cell d L (semI (sl 0))) 0 ∗ semVal (cell d L (semI (sl 1))) 0 ∗ semVal (cell d L (semO (sl 0))) 0
          ∗ semVal (cell d L (semO (sl 1))) 0 ∗ semVal (cell d L semG) 0 ∗ R) := by
  have hmem : ∀ s : DmaSem sig, (SemLoc.dma s : SemLoc sig).isScoped .scVector = true → cell d L s ∈ ownCells (thr d L) :=
    fun s h => (mem_ownCells (g := cell d L s)).mpr ⟨rfl, h⟩
  have hne : ∀ s t : DmaSem sig, s ≠ t → cell d L s ≠ cell d L t := fun s t h e => h (SemLoc.dma.inj (congrArg Prod.snd e))
  unfold SparseCore.Cfg.ownSems0
  refine ⟨_, (SparseCore.bigSep_erase' (hmem (semI (sl 0)) (by decide))).trans (congrArg (BI.sep _)
    ((SparseCore.bigSep_erase' (i := cell d L (semI (sl 1))) (Finset.mem_erase.mpr ⟨hne _ _ (by decide), hmem _ (by decide)⟩)).trans (congrArg (BI.sep _)
    ((SparseCore.bigSep_erase' (i := cell d L (semO (sl 0))) (Finset.mem_erase.mpr ⟨hne _ _ (by decide), Finset.mem_erase.mpr ⟨hne _ _ (by decide),
      hmem _ (by decide)⟩⟩)).trans (congrArg (BI.sep _)
    ((SparseCore.bigSep_erase' (i := cell d L (semO (sl 1))) (Finset.mem_erase.mpr ⟨hne _ _ (by decide), Finset.mem_erase.mpr ⟨hne _ _ (by decide),
      Finset.mem_erase.mpr ⟨hne _ _ (by decide), hmem _ (by decide)⟩⟩⟩)).trans (congrArg (BI.sep _)
    (SparseCore.bigSep_erase' (i := cell d L semG) (Finset.mem_erase.mpr ⟨hne _ _ (by decide), Finset.mem_erase.mpr ⟨hne _ _ (by decide),
      Finset.mem_erase.mpr ⟨hne _ _ (by decide), Finset.mem_erase.mpr ⟨hne _ _ (by decide), hmem _ (by decide)⟩⟩⟩⟩)))))))))⟩

/-- The tile's own buffers: the index buffer, the row buffer, and the rest. -/
theorem ownBufs_eq :
    ∃ R : sProp 𝕄, (ownBufs (thr d L) : sProp 𝕄) = iprop((∃ f, iBuf d L ↦{fullShare} f) ∗ (∃ f, rBuf d L ↦{fullShare} f) ∗ R) := by
  unfold SparseCore.Cfg.ownBufs
  refine ⟨_, (SparseCore.bigSep_erase' (SparseCore.Cfg.mem_ownRefs_of_owner (p := (thr d L).2) (b := (thr d L).2.devRef cc0_scoped0) rfl)).trans (congrArg (BI.sep _)
    (SparseCore.bigSep_erase' (i := (thr d L).2.devRef cc0_scoped2) (Finset.mem_erase.mpr ⟨fun e => absurd (Proc.devRef_injective _ e)
    (show (cc0_scoped2 : Ref sig .scVector) ≠ cc0_scoped0 by decide), SparseCore.Cfg.mem_ownRefs_of_owner (p := (thr d L).2) rfl⟩)))⟩

end Cert.Proof.Split

end
-- ==== Proof.Launch.lean ====
/-
  The kernel's run: the host's reshape of the indices into one row, the SparseCore call, and the host's reshape of its rows
  into the result. Each SparseCore is handed half of the table and of the index row as a share, and its part of the rows;
  each tile a sixteenth of that. The run ends with the rows the indices name in the result, the arguments as they were,
  and every semaphore at zero.
-/
module

public import proofs.«01_k».proof.Proof.Split

@[expose] public section

noncomputable section

namespace Cert.Proof.Launch

open Cert.KernelIdeal Cert.KernelIdeal.Gen Cert.Proof.Words Cert.Proof.Slots Cert.Proof.Trip Cert.Proof.Tile Cert.Proof.Split
open Idealize.ShloMosaic
open Idealize.ShloMosaic.SparseCore (S V T)
open Idealize.ShloMosaic.SparseCore.Cfg (HIx Pay ownBufs ownSems0)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable [FloatOps F]
variable (m : (ℓ : Loc nD τ sig) → Buf (Elt F) ℓ) (ρ : Dev nD → PrngReg)

/-! ## The contents -/

abbrev aLoc (d : Dev nD) : Loc nD τ sig := (SparseCore.T d).loc main_arg0
abbrev rLoc (d : Dev nD) : Loc nD τ sig := (SparseCore.T d).loc main_v2

/-- The index row: the indices, in row-major order. -/
def Xm (d : Dev nD) : Buf (Elt F) (xLoc d) :=
  fun (i : S1x819200.Idx) => shapeCast S1x819200 (m (aLoc d) : S4096x200.Idx → Elt F .i32) shapeCasts_S4096x200_S1x819200 i
/-- The rows the call leaves. -/
def Gm (d : Dev nD) : Buf (Elt F) (oLoc d) := G d (Xm m d) (m (tLoc d))
/-- The result. -/
def Rm (d : Dev nD) : Buf (Elt F) (rLoc d) :=
  fun (i : S4096x200x128.Idx) => shapeCast S4096x200x128 (Gm m d : S819200x128.Idx → Elt F .f32) shapeCasts_S819200x128_S4096x200x128 i

/-- What the run asks of the launch memory: every index names a row of the table. -/
def PreOK : Prop := ∀ (d : Dev nD) (j : S4096x200.Idx), (m (aLoc d) j : BitVec 32).toNat < 100000

theorem Xm_lt (h : PreOK m) (d : Dev nD) (j : S1x819200.Idx) : (Xm m d j : BitVec 32).toNat < 100000 := h d _

/-! ## What the handshakes carry -/

abbrev goP (d : Dev nD) (c : Fin 2) (i : Fin 16) (f : Buf (Elt F) (oLoc d)) : sProp 𝕄 :=
  iprop((xLoc d ↦{qi c i} Xm m d) ∗ (tLoc d ↦{qi c i} m (tLoc d)) ∗ oLoc d ↦[tileSet c i]{fullShare} f)
abbrev stP (d : Dev nD) (c : Fin 2) (f : Buf (Elt F) (oLoc d)) : sProp 𝕄 :=
  iprop((xLoc d ↦{qc c} Xm m d) ∗ (tLoc d ↦{qc c} m (tLoc d)) ∗ oLoc d ↦[coreSet c]{fullShare} f)

/-- Each SparseCore takes its shares of the index row and the table and its part of the rows, and brings them back with the
    rows gathered; each tile the same of its SparseCore's. -/
def P : (K (F := F)).Pay (nD := nD) (Val := Elt F) (Name := ℕ) (U := UU) where
  st := fun q d c => match q with | 0 => stP m d (Fin.cast nCore_zero c) (m (oLoc d))
  dn := fun q d c => match q with | 0 => stP m d (Fin.cast nCore_zero c) (Gm m d)
  go := fun q d c i => match q with | 0 => goP m d (Fin.cast nCore_zero c) (Fin.cast nSub_zero i) (m (oLoc d))
  td := fun q d c i => match q with | 0 => goP m d (Fin.cast nCore_zero c) (Fin.cast nSub_zero i) (Gm m d)
  x := fun _ _ => iprop(emp)

instance P_storable : (P (F := F) m).IsStorable where
  st q d c := match q with
    | 0 => (inferInstance : BI.Storable (upEmb : UEmb _ 𝕄) (stP m d (Fin.cast nCore_zero c) (m (oLoc d))))
  dn q d c := match q with
    | 0 => (inferInstance : BI.Storable (upEmb : UEmb _ 𝕄) (stP m d (Fin.cast nCore_zero c) (Gm m d)))
  go q d c i := match q with
    | 0 => (inferInstance : BI.Storable (upEmb : UEmb _ 𝕄) (goP m d (Fin.cast nCore_zero c) (Fin.cast nSub_zero i) (m (oLoc d))))
  td q d c i := match q with
    | 0 => (inferInstance : BI.Storable (upEmb : UEmb _ 𝕄) (goP m d (Fin.cast nCore_zero c) (Fin.cast nSub_zero i) (Gm m d)))

/-! ## A tile -/

set_option maxHeartbeats 4000000 in
/-- Tile `i` of SparseCore `c`, from its part of the arrays and its own buffers and semaphores. -/
theorem tile_body (hF : (K (F := F)).Facts) (hpre : PreOK m) (d : Dev nD) (c : Fin 2) (i : Fin 16)
    (O : CellTallies nD τ sig (HIx 1)) (W : Waits sig (HIx 1)) (hO : ∀ g, O g none = 0) :
    iprop(levAts (K (F := F)).L (K (F := F)).lev ∗ emp ∗ goP m d c i (m (oLoc d))
        ∗ scopedBufs (thr d (coords c i)) ∗ scopedSems0 (thr d (coords c i)) ∗ owes (thr d (coords c i)) O W)
      ⊢ wp frame (wpE (defs₀ (F := F)) 𝒱₀ (thr d (coords c i)) none) Set.univ
          (cc0_gather_kernel (coords c i) (Memref.whole main_arg1_scv) (Memref.isWhole_whole _) (Memref.whole main_v0_scv) (Memref.isWhole_whole _)
            (Memref.whole main_v1_scv) (Memref.isWhole_whole _) (Memref.whole cc0_scoped0) (Memref.isWhole_whole _) cc0_scoped1
            (Memref.whole cc0_scoped2) (Memref.isWhole_whole _) cc0_scoped3 cc0_scoped4)
          fun _ => iprop(goP m d c i (Gm m d) ∗ scopedBufs (thr d (coords c i)) ∗ scopedSems0 (thr d (coords c i))
            ∗ ∃ W', ⌜∀ p ∈ W', p ∈ W ∨ p.2 = none⌝ ∗ owes (thr d (coords c i)) O W') := by
  obtain ⟨RS, hS⟩ := ownSems_eq (F := F) d (coords c i)
  obtain ⟨RB, hB⟩ := ownBufs_eq (F := F) d (coords c i)
  rw [(K (F := F)).scopedBufs_V hF d ((coords c i 0).castLE hcore0) ((coords c i 1).castLE hsub0),
    SparseCore.Cfg.scopedSems0_V (Val := Elt F) d ((coords c i 0).castLE hcore0) ((coords c i 1).castLE hsub0), hS, hB]
  iintro ⟨#Hlv, -, ⟨Hx, Ht, Ho⟩, ⟨Hi, Hr, HRB⟩, ⟨Hs0, Hs1, Ho0, Ho1, Hg, HRS⟩, HO⟩
  ihave Hmw := (show levAts (K (F := F)).L (K (F := F)).lev ⊢ Transfers.MayWaits (thr d (coords c i)) (default : HIx 1) O from
    (K (F := F)).mayWaits_none (thr := thr d (coords c i)) hO) $$ Hlv
  ihave Hi := (idx_split (F := F) d (coords c i)) $$ Hi
  icases Hi with ⟨Hi0, Hi1⟩
  ihave Hr := (row_split (F := F) d (coords c i)) $$ Hr
  icases Hr with ⟨Hr0, Hr1⟩
  ihave Hx := (Entails.of_eq (share_slots (F := F) (Xm m d) c i)) $$ Hx
  icases Hx with ⟨Hx0, Hx1⟩
  ihave Ho := (Entails.of_eq (tile_blocks d c i (m (oLoc d)))) $$ Ho
  ihave HT := (Tile.run d (coords c i) (Xm m d) (m (tLoc d)) (m (oLoc d)) (qb c i) (qi c i) (Xm_lt m hpre d) O W)
    $$ [Hi0 Hi1 Hr0 Hr1 Hx0 Hx1 Hs0 Hs1 Ho0 Ho1 Hg Ht Ho HO Hmw]
  · isplitr [Hmw]; swap; · iexact Hmw
    isplitl [Hi0 Hs0 Hx0]
    · isplitl [Hi0]; · iexact Hi0
      isplitl [Hs0]; · iexact Hs0
      iexact Hx0
    isplitl [Hi1 Hs1 Hx1]
    · isplitl [Hi1]; · iexact Hi1
      isplitl [Hs1]; · iexact Hs1
      iexact Hx1
    isplitl [Hr0 Ho0]
    · isplitl [Hr0]; · iexact Hr0
      iexact Ho0
    isplitl [Hr1 Ho1]
    · isplitl [Hr1]; · iexact Hr1
      iexact Ho1
    isplitl [Ht]; · iexact Ht
    isplitl [Hg]; · iexact Hg
    isplitl [Ho]; · iexact Ho
    iexists W; isplitr; · ipureintro; exact fun p hp => .inl hp
    iexact HO
  iapply (wp_wand frame _ _) $$ HT
  iintro %_ ⟨⟨Hi0, Hs0, Hx0⟩, ⟨Hi1, Hs1, Hx1⟩, ⟨Hr0, Ho0⟩, ⟨Hr1, Ho1⟩, Ht, Hg, Ho, HO⟩
  ihave Hi := (idx_join (F := F) d (coords c i)) $$ [Hi0 Hi1]
  · isplitl [Hi0] <;> iassumption
  ihave Hr := (row_join (F := F) d (coords c i)) $$ [Hr0 Hr1]
  · isplitl [Hr0] <;> iassumption
  ihave Hx := (Entails.of_eq (share_slots (F := F) (Xm m d) c i).symm) $$ [Hx0 Hx1]
  · isplitl [Hx0] <;> iassumption
  ihave Ho := (Entails.of_eq (show (bigSep (Finset.range 100) fun n => outPts d (blk (coords c i) n) (G d (Xm m d) (m (tLoc d))))
    = (oLoc d ↦[tileSet c i]{fullShare} Gm m d) from (tile_blocks d c i (Gm m d)).symm)) $$ Ho
  isplitl [Hx Ht Ho]
  · isplitl [Hx]; · iexact Hx
    isplitl [Ht]; · iexact Ht
    iexact Ho
  isplitl [Hi Hr HRB]
  · isplitl [Hi]; · iexact Hi
    isplitl [Hr]; · iexact Hr
    iexact HRB
  isplitl [Hs0 Hs1 Ho0 Ho1 Hg HRS]
  · isplitl [Hs0]; · iexact Hs0
    isplitl [Hs1]; · iexact Hs1
    isplitl [Ho0]; · iexact Ho0
    isplitl [Ho1]; · iexact Ho1
    isplitl [Hg]; · iexact Hg
    iexact HRS
  iexact HO

theorem defs₀_vector (c : Fin τ.nSC) (s : Fin τ.nSub) :
    defs₀ (F := F) (.scVector c s) 0 ()
      = SparseCore.onTile hcore0 hsub0 (fun c s => cc0_gather_kernel (coords c s) (Memref.whole main_arg1_scv) (Memref.isWhole_whole _)
            (Memref.whole main_v0_scv) (Memref.isWhole_whole _)
            (Memref.whole main_v1_scv) (Memref.isWhole_whole _) (Memref.whole cc0_scoped0) (Memref.isWhole_whole _) cc0_scoped1
            (Memref.whole cc0_scoped2) (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (Fin.cast nCore_zero c) (Fin.cast nSub_zero i) O W hO).trans (wp_mono frame _ _ fun _ => obl_post)

/-! ## The split among a SparseCore's tiles -/

theorem stP_tiles (d : Dev nD) (c : Fin 2) (f : Buf (Elt F) (oLoc d)) :
    stP m d c f = bigSep Finset.univ fun i : Fin 16 => goP m d c i f := by
  unfold stP goP
  rw [bigSep_sep', bigSep_sep', share_tiles, share_tiles, core_tiles]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stP m d (Fin.cast nCore_zero c) (m (oLoc d)) ⊢ |={Set.univ}=> iprop(
      (bigSep Finset.univ fun i : Fin ((K (F := F)).nSub 0) => goP m d (Fin.cast nCore_zero c) (Fin.cast nSub_zero i) (m (oLoc d)))
      ∗ ((bigSep Finset.univ fun i : Fin ((K (F := F)).nSub 0) => goP m d (Fin.cast nCore_zero c) (Fin.cast nSub_zero i) (Gm m d))
          -∗ stP m d (Fin.cast nCore_zero c) (Gm m d)))
  rw [bigSep_tasks (F := F) (fun i => goP m d (Fin.cast nCore_zero c) i (m (oLoc d))),
    bigSep_tasks (F := F) (fun i => goP m d (Fin.cast nCore_zero c) i (Gm m d)), ← stP_tiles, ← stP_tiles]
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program -/

abbrev a' : DevRef τ sig := Proc.devRef .tc (main_arg0 : Ref sig .tc)
abbrev t' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.i32 : EltTy) = .i32) shapeCasts_S4096x200_S1x819200
abbrev opOut : HloOp τ sig (Elt F) := StableHlo.reshape main_v1 main_v2 (rfl : (.f32 : EltTy) = .f32) shapeCasts_S819200x128_S4096x200x128

/-- The host's five arrays. -/
abbrev S5 : Finset (DevRef τ sig) := {a', t', x', o', r'}

theorem held_S5 (d : Dev nD) (W : Valuation τ sig (Elt F)) :
    (held (T d) S5 W : sProp 𝕄)
      = iprop((aLoc d ↦{fullShare} W a') ∗ (tLoc d ↦{fullShare} W t') ∗ (xLoc d ↦{fullShare} W x') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (xLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

def V0 (d : Dev nD) : Valuation τ sig (Elt F) := fun b => m (d, b)
/-- After the call. -/
def V2 (d : Dev nD) : Valuation τ sig (Elt F) := Function.update ((opIn (F := F)).result (V0 m d)) o' (Gm m d)

theorem unscoped_held (d : Dev nD) : (unscopedBufs d (fun b => m ((SparseCore.T d).loc b)) : sProp 𝕄) = held (T d) S5 (V0 m d) := by
  rw [unscopedBufs_eq, held_S5]; rfl

theorem V1_of_ne (d : Dev nD) {b : DevRef τ sig} (h : b ∉ ({x'} : Finset (DevRef τ sig))) : (opIn (F := F)).result (V0 m d) b = m (d, b) :=
  (opIn (F := F)).result_of_not_mem _ h
theorem V1_x (d : Dev nD) : (opIn (F := F)).result (V0 m d) x' = Xm m d :=
  StableHlo.reshape_result main_arg0 main_v0 (rfl : (.i32 : EltTy) = .i32) shapeCasts_S4096x200_S1x819200 _ _ (V0 m d)
theorem V2_of_ne (d : Dev nD) {b : DevRef τ sig} (h : b ≠ o') : V2 m d b = (opIn (F := F)).result (V0 m d) b := Function.update_of_ne h _ _
theorem V2_o (d : Dev nD) : V2 m d o' = Gm m d := Function.update_self _ _ _
theorem V3_of_ne (d : Dev nD) {b : DevRef τ sig} (h : b ∉ ({r'} : Finset (DevRef τ sig))) : (opOut (F := F)).result (V2 m d) b = V2 m d b :=
  (opOut (F := F)).result_of_not_mem _ h
theorem V3_r (d : Dev nD) : (opOut (F := F)).result (V2 m d) r' = Rm m d :=
  (StableHlo.reshape_result main_v1 main_v2 (rfl : (.f32 : EltTy) = .f32) shapeCasts_S819200x128_S4096x200x128 _ _ (V2 m d)).trans
    (by rw [show V2 m d (Proc.devRef .tc (main_v1 : Ref sig .tc)) = Gm m d from V2_o m d]; rfl)

theorem held_V1 (d : Dev nD) :
    (held (T d) S5 ((opIn (F := F)).result (V0 m d)) : sProp 𝕄)
      = iprop((aLoc d ↦{fullShare} m (aLoc d)) ∗ (tLoc d ↦{fullShare} m (tLoc d)) ∗ (xLoc d ↦{fullShare} Xm m d) ∗ (oLoc d ↦{fullShare} m (oLoc d))
          ∗ rLoc d ↦{fullShare} m (rLoc d)) := by
  rw [held_S5, V1_x, V1_of_ne m d (b := a') (by decide), V1_of_ne m d (b := t') (by decide), V1_of_ne m d (b := o') (by decide), V1_of_ne m d (b := r') (by decide)]
theorem held_V2 (d : Dev nD) :
    (held (T d) S5 (V2 m d) : sProp 𝕄)
      = iprop((aLoc d ↦{fullShare} m (aLoc d)) ∗ (tLoc d ↦{fullShare} m (tLoc d)) ∗ (xLoc d ↦{fullShare} Xm m d) ∗ (oLoc d ↦{fullShare} Gm m d)
          ∗ rLoc d ↦{fullShare} m (rLoc d)) := by
  rw [held_S5, V2_o, V2_of_ne m d (b := a') (by decide), V2_of_ne m d (b := t') (by decide), V2_of_ne m d (b := x') (by decide), V2_of_ne m d (b := r') (by decide),
    V1_x, V1_of_ne m d (b := a') (by decide), V1_of_ne m d (b := t') (by decide), V1_of_ne m d (b := r') (by decide)]
theorem held_V3 (d : Dev nD) :
    (held (T d) S5 ((opOut (F := F)).result (V2 m d)) : sProp 𝕄)
      = iprop((aLoc d ↦{fullShare} m (aLoc d)) ∗ (tLoc d ↦{fullShare} m (tLoc d)) ∗ (xLoc d ↦{fullShare} Xm m d) ∗ (oLoc d ↦{fullShare} Gm m d)
          ∗ rLoc d ↦{fullShare} Rm m d) := by
  rw [held_S5, V3_r, V3_of_ne m d (b := a') (by decide), V3_of_ne m d (b := t') (by decide), V3_of_ne m d (b := x') (by decide), V3_of_ne m d (b := o') (by decide),
    V2_o, V2_of_ne m d (b := a') (by decide), V2_of_ne m d (b := t') (by decide), V2_of_ne m d (b := x') (by decide),
    V1_x, V1_of_ne m d (b := a') (by decide), V1_of_ne m d (b := t') (by decide)]

/-- The two SparseCores' parts are the whole arrays. -/
theorem cores_eq (d : Dev nD) (f : Buf (Elt F) (oLoc d)) :
    (bigSep Finset.univ fun c : Fin 2 => stP m d c f)
      = iprop((xLoc d ↦{fullShare} Xm m d) ∗ (tLoc d ↦{fullShare} m (tLoc d)) ∗ oLoc d ↦{fullShare} f) := by
  unfold stP
  rw [bigSep_sep', bigSep_sep', share_cores, share_cores, out_cores]

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = iprop((xLoc d ↦{fullShare} Xm m d) ∗ (tLoc d ↦{fullShare} m (tLoc d)) ∗ oLoc d ↦{fullShare} m (oLoc d)) :=
  (bigSep_cores (F := F) fun c => stP m d c (m (oLoc d))).trans (cores_eq m d _)
theorem dn0_eq (d : Dev nD) : (bigSep Finset.univ fun c : Fin ((K (F := F)).nCore 0) => (P m).dn 0 d c)
    = iprop((xLoc d ↦{fullShare} Xm m d) ∗ (tLoc d ↦{fullShare} m (tLoc d)) ∗ oLoc d ↦{fullShare} Gm m d) :=
  (bigSep_cores (F := F) fun c => stP m d c (Gm m d)).trans (cores_eq m d _)

theorem hIn : (opIn (F := F)).bufs ⊆ S5 := show ({a', x'} : Finset (DevRef τ sig)) ⊆ S5 by decide
theorem hOut : (opOut (F := F)).bufs ⊆ S5 := show ({o', r'} : Finset (DevRef τ sig)) ⊆ S5 by decide

/-- What the host program leaves the claims: the arguments as they were, the result. -/
abbrev FIN (d : Dev nD) : sProp 𝕄 := iprop((aLoc d ↦{fullShare} m (aLoc d)) ∗ (tLoc d ↦{fullShare} m (tLoc d)) ∗ rLoc d ↦{fullShare} Rm m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Ht, Hx, Ho, Hr⟩
  iapply ((K (F := F)).wp_run (D (F := F)) 𝒱 (EH := EH) (P := P m) κ d 0) $$ [Hst Ha Ht Hx Ho Hr Hb Hts]
  isplitr; · iexact Hctx
  isplitl [Hst]; · iexact Hst
  isplitl [Ht Hx Ho]
  · rw [st0_eq]
    isplitl [Hx]; · iexact Hx
    isplitl [Ht]; · iexact Ht
    iexact Ho
  iintro ⟨Hst, Hdn⟩
  ihave Hdn' := (Entails.of_eq (dn0_eq m d)) $$ Hdn
  icases Hdn' with ⟨Hx, Ht, Ho⟩
  iapply (wp_hlo_within 𝒱 (SparseCore.T d) none Set.univ (op := opOut) (S := S5) hOut (V := V2 m d)) $$ [Hb Ha Ht Hx Ho Hr]
  · isplitl [Hb]; · iexact Hb
    rw [held_V2]
    isplitl [Ha]; · iexact Ha
    isplitl [Ht]; · iexact Ht
    isplitl [Hx]; · iexact Hx
    isplitl [Ho]; · iexact Ho
    iexact Hr
  iintro ⟨Hb, Hheld⟩
  ihave Hh := (Entails.of_eq (held_V3 (F := F) m d)) $$ Hheld
  icases Hh with ⟨Ha, Ht, -, -, Hr⟩
  rw [wp_ret]; imodintro; imodintro
  isplitl [Hst]; · iexact Hst
  isplitr [Hb Hts]
  · isplitl [Ha]; · iexact Ha
    isplitl [Ht]; · iexact Ht
    iexact Hr
  isplitl [Hb] <;> iassumption

/-- What the claims read of a device's final state. -/
def fq (d : Dev nD) (s' : Phys nD τ sig (Elt F)) : Prop :=
  s'.mem.mem (rLoc d) = Rm m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := Rm m d)) $$ [HSI Hr]
  · isplitl [HSI] <;> iassumption
  icases H with %hr
  ipureintro
  exact ⟨funext fun i => hr i (Finset.mem_univ i), funext fun i => ha i (Finset.mem_univ i), funext fun i => ht i (Finset.mem_univ i)⟩

/-! ## The run -/

def QC : PUnit × MemSt nD τ sig (Elt F) → Prop := fun r =>
  (∀ c : Dev nD, r.2.mem (rLoc c) = Rm m c ∧ r.2.mem (aLoc c) = m (aLoc c) ∧ r.2.mem (tLoc c) = m (tLoc c)) ∧ r.2.sem = fun _ => 0

/-- The program's run from any memory whose indices name rows of the table: it ends, with the result at the rows they name,
    the arguments as they were, and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Range.lean ====
/-
  What the two preconditions give, read entry by entry: every index is below 100000, and (for the value claim) every entry of
  the table's first row is zero.
-/
module

public import proofs.«01_k».proof.Defs
public import proofs.«01_k».proof.Proof.Gen.Pre_pre_range
public import proofs.«01_k».proof.Proof.Gen.Pre_pre_zero_row
public import Idealize.ShloMosaic.Lib.ReduceAll
public import Idealize.ShloMosaic.Lib.IdealHost
public import Idealize.ShloMosaic.Lib.ValueIdx
public import Idealize.ShloMosaic.Lib.Pipeline.Value

@[expose] public section

noncomputable section

namespace Cert.Proof.Range

open Idealize.ShloMosaic Idealize.ShloMosaic.ValueIdx

abbrev Sx : Shape := ⟨2, ![4096, 200]⟩
abbrev St : Shape := ⟨2, ![100000, 128]⟩

variable {F : FTy → Type} [FloatOps F]

instance : Subsingleton (⟨0, ![]⟩ : Shape).Idx := ⟨fun _ _ => funext fun a => a.elim0⟩

/-- A word that is at least 0 and less than 100000 when read signed is below 100000 when read unsigned. -/
theorem word_lt {w : BitVec 32} (h0 : (0#32).toInt ≤ w.toInt) (h1 : w.toInt < (100000#32).toInt) : w.toNat < 100000 := by
  rw [show (0#32).toInt = 0 from by decide, BitVec.toInt_eq_toNat_cond] at h0
  rw [show (100000#32).toInt = 100000 from by decide, BitVec.toInt_eq_toNat_cond] at h1
  have := w.isLt
  split at h0 <;> split at h1 <;> omega

/-- A word whose two comparisons with 0 and 100000 are joined to true is below 100000. -/
theorem word_lt_of_bit {w : BitVec 32}
    (h : IntOp.andi (IntOp.cmpi .sge w 0#32) (IntOp.cmpi .slt w 100000#32) = 1#1) : w.toNat < 100000 :=
  word_lt (IntOp.cmpi_sge.1 (IntOp.andi_eq_one.1 h).1) (IntOp.cmpi_slt.1 (IntOp.andi_eq_one.1 h).2)

/-- Under the range precondition every index is below 100000. -/
theorem lt_of_range (x : IVec Sx 32) (T : FVec F St .f32) (h : Cert.Pre_pre_range.fn (F := F) x T = fun _ => 1#1)
    (j : Sx.Idx) : (x j).toNat < 100000 :=
  word_lt_of_bit (Host.reduce_andi_all _ _ _ _ ix0 (congrFun h ix0) j)

/-- Under the precondition of the value claim every index is below 100000. -/
theorem lt_of_zero_row (x : IVec Sx 32) (T : FVec F St .f32) (h : Cert.Pre_pre_zero_row.fn (F := F) x T = fun _ => 1#1)
    (j : Sx.Idx) : (x j).toNat < 100000 :=
  word_lt_of_bit (Host.reduce_andi_all _ _ _ _ ix0 (IntOp.andi_eq_one.1 (congrFun h ix0)).1 j)

/-- The first row of a table over the extended reals is zero. -/
def FirstRowZero (T : FVec Ideal St .f32) : Prop := ∀ c : Fin 128, T (ix2 0 c) = 0

/-- Under the precondition of the value claim the table's first row is zero, over the extended reals. -/
theorem zero_of_zero_row (x : IVec Sx 32) (T : FVec Ideal St .f32)
    (h : Cert.Pre_pre_zero_row.fn (F := Ideal) x T = fun _ => 1#1) : FirstRowZero T := by
  intro c
  have e := Host.reduce_andi_all _ _ _ _ ix0 (IntOp.andi_eq_one.1 (congrFun h ix0)).2 (ix1 c)
  have hs : shapeCast Cert.Pre_pre_zero_row.S128 (extractStridedSlice Cert.Pre_pre_zero_row.S1x128 ![0, 0] T
        Cert.Pre_pre_zero_row.Gen.slices_S100000x128_S1x128_0_0) Cert.Pre_pre_zero_row.Gen.shapeCasts_S1x128_S128 (ix1 c)
      = T (ix2 0 c) := by
    rw [shapeCast_apply _ _ _ (ix2 (0 : Fin 1) c) (by rw [Shape.rowMajor_val_two, Shape.rowMajor_val_one]; simp)]
    exact extractStridedSlice_apply _ _ _ _ _ fun a => by fin_cases a <;> simp
  have e' : Ideal.cmp .oeq (shapeCast Cert.Pre_pre_zero_row.S128 (extractStridedSlice Cert.Pre_pre_zero_row.S1x128 ![0, 0] T
        Cert.Pre_pre_zero_row.Gen.slices_S100000x128_S1x128_0_0) Cert.Pre_pre_zero_row.Gen.shapeCasts_S1x128_S128 (ix1 c))
      (Ideal.ofBits .f32 0x00000000#32) = 1#1 := e
  rw [hs, Ideal.ofBits_zero_f32] at e'
  by_contra hne
  simp [Ideal.cmp, hne] at e'

end Cert.Proof.Range

end
-- ==== Proof.Reference.lean ====
/-
  The reference's value, entry by entry, over the extended reals: where every index is below 100000 and the table's first row
  is zero, the reference's entry (b, h, c) is the table's entry (x (b, h), c). An index that is not 0 has the mask's 1 as its
  factor, and index 0 has the factor 0 and a row of zeros.
-/
module

public import proofs.«01_k».proof.Proof.Gen.ReferenceIdeal.Run
public import proofs.«01_k».proof.Proof.Range

@[expose] public section

noncomputable section

namespace Cert.Proof.Reference

open Cert.ReferenceIdeal Cert.ReferenceIdeal.Gen Cert.Proof.Range
open Idealize.ShloMosaic Idealize.ShloMosaic.ValueIdx

variable {F : FTy → Type} [FloatOps F]

/-- The index entry (b, h) of a result's entry (b, h, c), -/
def pos (j : S4096x200x128.Idx) : S4096x200.Idx := ix2 (j 0) (j 1)
/-- and its column c. -/
def col (j : S4096x200x128.Idx) : Fin 128 := j 2
/-- The index entry (b, h) of an entry (b, h, 0). -/
def pos1 (j : S4096x200x1.Idx) : S4096x200.Idx := ix2 (j 0) (j 1)
/-- The entry (b, h, 0) of a result's entry (b, h, c). -/
def unit (j : S4096x200x128.Idx) : S4096x200x1.Idx := ix3 (j 0) (j 1) 0

theorem pos1_unit (j : S4096x200x128.Idx) : pos1 (unit j) = pos j := rfl

/-- The signed value of a word below 100000. -/
theorem toInt_of_lt {w : BitVec 32} (h : w.toNat < 100000) : w.toInt = w.toNat := by
  rw [BitVec.toInt_eq_toNat_cond]; split <;> omega

/-- An index wrapped as the reference wraps a negative one. -/
abbrev wrapped (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 100000#32))) x

/-- No index below 100000 is wrapped. -/
theorem wrapped_eq (x : IVec S4096x200 32) (hx : ∀ j, (x j).toNat < 100000) : wrapped x = x := by
  funext j
  show Scalar.select (IntOp.cmpi .slt (x j) 0#32) _ (x j) = x j
  refine if_neg fun h => ?_
  have h' := IntOp.cmpi_slt.1 h
  rw [toInt_of_lt (hx j), show (0#32).toInt = 0 from by decide] at h'
  omega

/-- The indices with a unit axis behind. -/
abbrev column (x : IVec S4096x200 32) : IVec S4096x200x1 32 :=
  broadcastInDim S4096x200x1 ![0, 1] bcast_S4096x200_S4096x200x1_0_1 x

theorem column_apply (x : IVec S4096x200 32) (j : S4096x200x1.Idx) : column x j = x (pos1 j) :=
  broadcastInDim_apply _ _ _ _ _ fun a => by fin_cases a <;> rfl

/-- The reference's test that an index is in the table is true everywhere. -/
theorem inside (x : IVec S4096x200 32) (hx : ∀ j, (x j).toNat < 100000) (j : S4096x200.Idx) :
    Host.reduce IntOp.andi (andi (cmpi .sge (column x) (broadcastInDim S4096x200x1 ![] bcast_S_S4096x200x1 (constantI S_ 32 0#32)))
      (cmpi .sle (column x) (broadcastInDim S4096x200x1 ![0, 1, 2] bcast_S1x1x1_S4096x200x1_0_1_2
        (broadcastInDim S1x1x1 ![2] bcast_S1_S1x1x1_2 (constantI S1 32 99999#32)))))
      (constantI S_ 1 1#1) reducesTo_S4096x200x1_S4096x200_d2 h_S_ j = 1#1 := by
  refine Host.reduce_andi_one _ _ _ _ j rfl fun i => ?_
  show IntOp.andi (IntOp.cmpi .sge (column x i) 0#32) (IntOp.cmpi .sle (column x i) 99999#32) = 1#1
  rw [column_apply]
  have h := hx (pos1 i)
  refine IntOp.andi_eq_one.2 ⟨IntOp.cmpi_sge.2 ?_, IntOp.cmpi_sle.2 ?_⟩ <;> rw [toInt_of_lt h]
  · rw [show (0#32).toInt = 0 from by decide]; omega
  · rw [show (99999#32).toInt = 99999 from by decide]; omega

/-- The reference's dimension numbers: one row of the table for each index. -/
abbrev rows : GatherDims S100000x128 S4096x200x1 S4096x200x128 :=
  gather_S100000x128_S4096x200x1_S4096x200x128_2_0_n_n_0_2_1128

/-- On the table's row axis the gather starts at the index read for the result's entry; -/
theorem start_row (x : IVec S4096x200 32) (hx : ∀ j, (x j).toNat < 100000) (j : S4096x200x128.Idx) :
    rows.start j (column x) (0 : Fin 2) = (x (pos j)).toNat := by
  unfold GatherDims.start
  rw [dif_pos (show (0 : Fin 2) ∈ rows.startIndexMap from List.mem_singleton.mpr rfl)]
  have hsi : rows.siIdx j ⟨List.idxOf (0 : Fin 2) rows.startIndexMap,
      List.idxOf_lt_length_iff.2 (List.mem_singleton.mpr rfl)⟩ = unit j := by
    funext b; refine Fin.ext ?_
    match b with
    | ⟨0, _⟩ => rfl
    | ⟨1, _⟩ => rfl
    | ⟨2, _⟩ => rfl
  rw [hsi, column_apply, pos1_unit]
  show min (x (pos j)).toInt.toNat (100000 - 1) = (x (pos j)).toNat
  have h := hx (pos j)
  rw [toInt_of_lt h, Int.toNat_natCast]
  omega

/-- and on the column axis at 0. -/
theorem start_col (x : IVec S4096x200 32) (j : S4096x200x128.Idx) : rows.start j (column x) (1 : Fin 2) = 0 := by
  unfold GatherDims.start
  exact dif_neg (show (1 : Fin 2) ∉ ([0] : List (Fin 2)) from by decide)

/-- The rows gathered at the indices: entry (b, h, c) is the table's entry (x (b, h), c). -/
theorem gather_rows {α : Type} (T : S100000x128.Idx → α) (x : IVec S4096x200 32) (hx : ∀ j, (x j).toNat < 100000)
    (j : S4096x200x128.Idx) :
    Host.gather rows T (column x) j = T (ix2 ⟨(x (pos j)).toNat, hx _⟩ (col j)) := by
  unfold Host.gather
  refine congrArg T (funext fun a => Fin.ext ?_)
  show rows.start j (column x) a + rows.batchCoord j a + rows.offCoord j a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    exact start_row x hx j
  | ⟨1, _⟩ =>
    refine (congrArg (· + _) (start_col x j)).trans ((Nat.zero_add _).trans ?_)
    rfl

/-- The mask as a factor: 1 at an index that is not 0, and 0 at index 0. -/
abbrev factor (x : IVec S4096x200 32) : FVec F S4096x200x128 .f32 :=
  broadcastInDim S4096x200x128 ![0, 1, 2] bcast_S4096x200x1_S4096x200x128_0_1_2
    (broadcastInDim S4096x200x1 ![0, 1] bcast_S4096x200_S4096x200x1_0_1
      (uitofp .f32 (cmpi .ne x (broadcastInDim S4096x200 ![] bcast_S_S4096x200 (constantI S_ 32 0#32)))))

theorem factor_apply (x : IVec S4096x200 32) (j : S4096x200x128.Idx) :
    factor (F := F) x j = FloatOps.uitofp .f32 (IntOp.cmpi .ne (x (pos j)) 0#32) := by
  unfold factor
  rw [broadcastInDim_apply _ _ _ j (unit j) (fun a => by fin_cases a <;> rfl),
    broadcastInDim_apply _ _ _ _ (pos j) (fun a => by fin_cases a <;> rfl)]
  rfl

/-- The table's entry times the mask's factor is the table's entry, the first row being zero. -/
theorem times_factor (T : FVec Ideal St .f32) (hT : ∀ c : Fin 128, T (ix2 0 c) = 0) (w : BitVec 32) (hw : w.toNat < 100000)
    (c : Fin 128) :
    T (ix2 ⟨w.toNat, hw⟩ c) * (FloatOps.uitofp (F := Ideal) .f32 (IntOp.cmpi .ne w 0#32) : EReal) = T (ix2 ⟨w.toNat, hw⟩ c) := by
  by_cases h : w = 0#32
  · subst h
    have : T (ix2 ⟨(0#32).toNat, hw⟩ c) = 0 := hT c
    rw [this, zero_mul]
  · rw [IntOp.cmpi_ne.2 h, show (FloatOps.uitofp (F := Ideal) .f32 (1#1) : EReal) = 1 from by
      show (((1#1).toNat : ℝ) : EReal) = 1
      simp, mul_one]

/-- The reference's result, as its operations compose. -/
abbrev out (x : IVec S4096x200 32) (T : FVec F S100000x128 .f32) : FVec F S4096x200x128 .f32 :=
  mulf (select (broadcastInDim S4096x200x128 ![0, 1] bcast_S4096x200_S4096x200x128_0_1
      (Host.reduce IntOp.andi (andi (cmpi .sge (column (wrapped x)) (broadcastInDim S4096x200x1 ![] bcast_S_S4096x200x1 (constantI S_ 32 0#32)))
        (cmpi .sle (column (wrapped x)) (broadcastInDim S4096x200x1 ![0, 1, 2] bcast_S1x1x1_S4096x200x1_0_1_2
          (broadcastInDim S1x1x1 ![2] bcast_S1_S1x1x1_2 (constantI S1 32 99999#32)))))
        (constantI S_ 1 1#1) reducesTo_S4096x200x1_S4096x200_d2 h_S_))
    (Host.gather rows T (column (wrapped x)))
    (broadcastInDim S4096x200x128 ![] bcast_S_S4096x200x128 (constant S_ .f32 0x7FC00000#32)))
    (factor x)

/-- Entry (b, h, c) of the reference's result is the table's entry (x (b, h), c). -/
theorem out_apply (x : IVec S4096x200 32) (T : FVec Ideal S100000x128 .f32) (hx : ∀ j, (x j).toNat < 100000)
    (hT : ∀ c : Fin 128, T (ix2 0 c) = 0) (j : S4096x200x128.Idx) :
    out x T j = T (ix2 ⟨(x (pos j)).toNat, hx _⟩ (col j)) := by
  unfold out
  rw [wrapped_eq x hx, mulf_apply, select_apply, factor_apply,
    broadcastInDim_apply ![0, 1] bcast_S4096x200_S4096x200x128_0_1 _ j (pos j) (fun a => by fin_cases a <;> rfl), inside x hx, gather_rows T x hx]
  exact times_factor T hT _ (hx _) (col j)

end Cert.Proof.Reference

end
-- ==== Proof.Value.lean ====
/-
  The kernel's value, entry by entry: the result's entry (b, h, c) is the table's entry (x (b, h), c), read through the two
  reshapes around the call. Over the extended reals, where the table's first row is zero, it is the reference's.
-/
module

public import proofs.«01_k».proof.Proof.Launch
public import proofs.«01_k».proof.Proof.Reference

@[expose] public section

noncomputable section

namespace Cert.Proof.Value

open Cert.KernelIdeal Cert.KernelIdeal.Gen Cert.Proof.Slots Cert.Proof.Launch
open Cert.Proof.Reference (pos col)
open Idealize.ShloMosaic Idealize.ShloMosaic.ValueIdx

variable {F : FTy → Type} (m : (ℓ : Loc nD τ sig) → Buf (Elt F) ℓ) (d : Dev nD)

/-- The place in the index row of a result's entry (b, h, c): 200 b + h. -/
def flat (j : S4096x200x128.Idx) : Fin 819200 :=
  ⟨200 * (j 0).val + (j 1).val, by
    have h0 : (j 0).val < 4096 := (j 0).isLt
    have h1 : (j 1).val < 200 := (j 1).isLt
    omega⟩

/-- The reshaped indices at that place are the index (b, h). -/
theorem Xm_flat (j : S4096x200x128.Idx) : Xm m d (xIx (flat j)) = m (aLoc d) (pos j) := by
  refine shapeCast_apply (m (aLoc d) : S4096x200.Idx → Elt F .i32) shapeCasts_S4096x200_S1x819200 (xIx (flat j)) (pos j) ?_
  show (S4096x200.rowMajor (pos j)).val = (S1x819200.rowMajor (xIx (flat j))).val
  rw [Shape.rowMajor_val_two, Shape.rowMajor_val_two]
  show (j 0).val * 200 + (j 1).val = 0 * 819200 + (200 * (j 0).val + (j 1).val)
  omega

/-- The result's entry (b, h, c) is the table's entry in column c of the row that index (b, h) names. -/
theorem Rm_apply (j : S4096x200x128.Idx) : Rm m d j = m (tLoc d) (rowIx (m (aLoc d) (pos j)) (col j)) := by
  refine (shapeCast_apply (Gm m d : S819200x128.Idx → Elt F .f32) shapeCasts_S819200x128_S4096x200x128 j (ix2 (flat j) (col j)) ?_).trans ?_
  · show (S819200x128.rowMajor (ix2 (flat j) (col j))).val = (S4096x200x128.rowMajor j).val
    rw [Shape.rowMajor_val_two, Shape.rowMajor_val_three]
    show (200 * (j 0).val + (j 1).val) * 128 + (j 2).val = ((j 0).val * 200 + (j 1).val) * 128 + (j 2).val
    omega
  · show m (tLoc d) (rowIx (Xm m d (xIx (flat j))) (col j)) = _
    rw [Xm_flat]

/-- A word below 100000 names the row of its own number. -/
theorem rowIx_eq (w : BitVec 32) (hw : w.toNat < 100000) (c : Fin 128) : rowIx w c = ix2 ⟨w.toNat, hw⟩ c := by
  funext a
  match a with
  | ⟨0, _⟩ => exact Fin.ext (show min w.toNat 99999 = w.toNat from by omega)
  | ⟨1, _⟩ => rfl

/-- The kernel's result is the reference's, over the extended reals, where every index is below 100000 and the table's first
    row is zero. -/
theorem Rm_eq_out (m : (ℓ : Loc nD τ sig) → Buf (Elt Ideal) ℓ) (d : Dev nD) (hx : PreOK m)
    (hT : Range.FirstRowZero (m (tLoc d))) :
    Rm m d = Cert.Proof.Reference.out (F := Ideal) (m (aLoc d)) (m (tLoc d)) := by
  funext j
  exact (Rm_apply m d j).trans ((congrArg (m (tLoc d) : S100000x128.Idx → Elt Ideal .f32) (rowIx_eq _ (hx d (pos j)) (col j))).trans
    (Cert.Proof.Reference.out_apply (m (aLoc d)) (m (tLoc d)) (hx d) hT j).symm)

end Cert.Proof.Value

end
-- ==== Proof.lean ====
/-
  The claims. The kernel's run is proved once, over any float values (Proof/Launch.lean), and gives both of its frames, the two
  printed programs being one text; the reference's run is the generated one. The value claim puts them side by side
  (Proof/Value.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_pre_range
public import proofs.«01_k».proof.Proof.Gen.Pre_pre_zero_row
public import proofs.«01_k».proof.Proof.Value
public import Idealize.ShloMosaic.Adequacy
public import Idealize.ShloMosaic.Init

@[expose] public section

noncomputable section

namespace Cert.Proof

open Idealize.ShloMosaic Idealize.SL.Sem

/-- The kernel as it stands runs to its end from any launch whose indices are in range: the arguments are unchanged and every
    semaphore is back at zero. -/
theorem frame_kernel : Cert.quiescent_Kernel := fun m ρ h =>
  (θ_run Cert.KernelIdeal.defs _ _).mono (fun _ r => ⟨fun c => (r.1 c).2, r.2⟩)
    (Launch.run_main (F := Bits) m ρ fun d j => Range.lt_of_range _ _ (h d) j)

/-- So does the kernel read over the extended reals; -/
theorem frame_ideal : Cert.quiescent_KernelIdeal := fun m ρ h =>
  (θ_run Cert.KernelIdeal.defs _ _).mono (fun _ r => ⟨fun c => (r.1 c).2, r.2⟩)
    (Launch.run_main (F := Ideal) m ρ fun d j => Range.lt_of_range _ _ (h d) j)

/-- and under the precondition of the value claim. -/
theorem frame_ideal_zero_row : Cert.quiescent_KernelIdeal_pre_pre_zero_row := fun m ρ h =>
  (θ_run Cert.KernelIdeal.defs _ _).mono (fun _ r => ⟨fun c => (r.1 c).2, r.2⟩)
    (Launch.run_main (F := Ideal) m ρ fun d j => Range.lt_of_zero_row _ _ (h d) j)

/-- The reference runs to its end from any launch: the arguments are unchanged, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference, over the extended reals and from the same arguments, end with the same result: the rows of
    the table that the indices name. -/
theorem value : Cert.algebraic_KernelIdeal_ReferenceIdeal_pre_pre_zero_row := fun m ρ m' ρ' h hag =>
  ⟨fun c => Launch.Rm m c,
    (θ_run Cert.KernelIdeal.defs _ _).mono (fun _ r => r.1)
      (Launch.run_main (F := Ideal) m ρ fun d j => Range.lt_of_zero_row _ _ (h d) j),
    (θ_run Cert.ReferenceIdeal.defs _ _).mono
      (fun r hr c => ⟨(hr c).1.trans (by
        rw [(hag c).1, (hag c).2]
        exact (Value.Rm_eq_out m c (fun d j => Range.lt_of_zero_row _ _ (h d) j) (Range.zero_of_zero_row _ _ (h c))).symm), (hr c).2⟩)
      (Cert.ReferenceIdeal.Value.run (F := Ideal) m' ρ')⟩

/-- Everything claimed, with the side conditions of the printed programs and predicates. -/
theorem claim : Cert.Claim :=
  ⟨Cert.Kernel.Gen.facts, Cert.KernelIdeal.Gen.facts, Cert.ReferenceIdeal.Gen.facts, Cert.Pre_pre_range.Gen.facts,
    Cert.Pre_pre_zero_row.Gen.facts, frame_kernel, frame_ideal, frame_ideal_zero_row, frame_reference,
    fun m ρ _ => frame_reference m ρ trivial, trivial, value⟩

end Cert.Proof

end
